-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S4096x512 : Shape := ⟨2, ![4096, 512]⟩
abbrev S1024x512 : Shape := ⟨2, ![1024, 512]⟩
abbrev S1024x4096 : Shape := ⟨2, ![1024, 4096]⟩
abbrev S3x1024x1024 : Shape := ⟨3, ![3, 1024, 1024]⟩
abbrev S4 : Shape := ⟨1, ![4]⟩
abbrev S3 : Shape := ⟨1, ![3]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 5
  | .vmem => 8
  | .smem => 2
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x512, .f32⟩
  | .local _ .vmem, ⟨1, _⟩ => ⟨S4096x512, .f32⟩
  | .local _ .vmem, ⟨2, _⟩ => ⟨S1024x512, .f32⟩
  | .local _ .vmem, ⟨3, _⟩ => ⟨S1024x512, .f32⟩
  | .local _ .vmem, ⟨4, _⟩ => ⟨S4096x1024, .f32⟩
  | .local _ .vmem, ⟨5, _⟩ => ⟨S4096x1024, .fp8e4m3⟩
  | .local _ .vmem, ⟨6, _⟩ => ⟨S1024x4096, .fp8e4m3⟩
  | .local _ .vmem, ⟨7, _⟩ => ⟨S3x1024x1024, .fp8e4m3⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v13 : BitVec 32 := Scalar.addi v2 c1_i32_4
  let c4_i32_5 : BitVec 32 := 4#32
  let v14 : BitVec 32 := Scalar.remsi v13 c4_i32_5
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let v18 : BitVec 32 := Scalar.remsi v17 c4_i32_9
  let c1_i32_11 : BitVec 32 := 1#32
  let v19 : BitVec 32 := Scalar.muli v18 c1_i32_11
  let v20 : BitVec 32 := Scalar.addi c0_i32_12 v19
  v20.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v21 : BitVec 32 := Scalar.addi v2 c3_i32
  let c4_i32_13 : BitVec 32 := 4#32
  let v22 : BitVec 32 := Scalar.remsi v21 c4_i32_13
  let c1_i32_15 : BitVec 32 := 1#32
  let v23 : BitVec 32 := Scalar.muli v22 c1_i32_15
  let v24 : BitVec 32 := Scalar.addi c0_i32_16 v23
  v24.toNat
def k0_off1 (d0 : Dev nD) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c0_i32_17
  let c4_i32_18 : BitVec 32 := 4#32
  let v26 : BitVec 32 := Scalar.remsi v25 c4_i32_18
  let c1024_i32 : BitVec 32 := 1024#32
  let v27 : BitVec 32 := Scalar.muli v26 c1024_i32
  let c0_i32_29 : BitVec 32 := 0#32
  ![v27.toNat, 0]
def k0_off2 (d0 : Dev nD) (c1_i32_44 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.addi v2 c1_i32_44
  let c4_i32_45 : BitVec 32 := 4#32
  let v58 : BitVec 32 := Scalar.remsi v57 c4_i32_45
  let c1024_i32_46 : BitVec 32 := 1024#32
  let v59 : BitVec 32 := Scalar.muli v58 c1024_i32_46
  let v60 : Index := Scalar.indexCast v59
  let c0_47 : Index := 0#32
  ![v60.toNat, 0]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v67 : BitVec 32 := Scalar.addi v2 c1_i32_49
  let c4_i32_50 : BitVec 32 := 4#32
  let v68 : BitVec 32 := Scalar.remsi v67 c4_i32_50
  let c1_i32_55 : BitVec 32 := 1#32
  let v70 : BitVec 32 := Scalar.muli v68 c1_i32_55
  let v71 : BitVec 32 := Scalar.addi c0_i32_56 v70
  v71.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_68 : BitVec 32 := 2#32
  let v93 : BitVec 32 := Scalar.addi v2 c2_i32_68
  let c4_i32_69 : BitVec 32 := 4#32
  let v94 : BitVec 32 := Scalar.remsi v93 c4_i32_69
  let c1_i32_74 : BitVec 32 := 1#32
  let v96 : BitVec 32 := Scalar.muli v94 c1_i32_74
  let v97 : BitVec 32 := Scalar.addi c0_i32_75 v96
  v97.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v119 : BitVec 32 := Scalar.addi v2 c3_i32_87
  let c4_i32_88 : BitVec 32 := 4#32
  let v120 : BitVec 32 := Scalar.remsi v119 c4_i32_88
  let c1_i32_93 : BitVec 32 := 1#32
  let v122 : BitVec 32 := Scalar.muli v120 c1_i32_93
  let v123 : BitVec 32 := Scalar.addi c0_i32_94 v122
  v123.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_101 : BitVec 32 := 1024#32
  let v135 : BitVec 32 := Scalar.muli v2 c1024_i32_101
  let v136 : Index := Scalar.indexCast v135
  let c0_102 : Index := 0#32
  ![v136.toNat, 0]
def k0_off4 (d0 : Dev nD) : Fin 2 → Nat :=
  let c0_104 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_103 : BitVec 32 := 1024#32
  let v139 : BitVec 32 := Scalar.muli v2 c1024_i32_103
  let v140 : Index := Scalar.indexCast v139
  ![0, v140.toNat]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_105 : BitVec 32 := 1024#32
  let v144 : BitVec 32 := Scalar.muli v2 c1024_i32_105
  let v145 : Index := Scalar.indexCast v144
  let c0_106 : Index := 0#32
  ![v145.toNat, 0]
def k0_off6 (d0 : Dev nD) (c1_i32_129 : BitVec 32) : Fin 2 → Nat :=
  let c0_136 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v169 : BitVec 32 := Scalar.subi v2 c1_i32_129
  let c4_i32_130 : BitVec 32 := 4#32
  let v170 : BitVec 32 := Scalar.addi v169 c4_i32_130
  let c4_i32_131 : BitVec 32 := 4#32
  let v171 : BitVec 32 := Scalar.remsi v170 c4_i32_131
  let c1024_i32_135 : BitVec 32 := 1024#32
  let v174 : BitVec 32 := Scalar.muli v171 c1024_i32_135
  let v175 : Index := Scalar.indexCast v174
  ![0, v175.toNat]
def k0_off7 (d0 : Dev nD) (c1_i32_129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v169 : BitVec 32 := Scalar.subi v2 c1_i32_129
  let c4_i32_130 : BitVec 32 := 4#32
  let v170 : BitVec 32 := Scalar.addi v169 c4_i32_130
  let c4_i32_131 : BitVec 32 := 4#32
  let v171 : BitVec 32 := Scalar.remsi v170 c4_i32_131
  let c1024_i32_137 : BitVec 32 := 1024#32
  let v179 : BitVec 32 := Scalar.muli v171 c1024_i32_137
  let v180 : Index := Scalar.indexCast v179
  let c0_138 : Index := 0#32
  ![v180.toNat, 0]
def k0_cond2 (i : grid0.Coords) : BitVec 1 :=
  let arg0 : BitVec 32 := BitVec.ofNat 32 (i 0).val
  let c0_i32_2 : BitVec 32 := 0#32
  let v9 : BitVec 1 := Scalar.cmpi .ne arg0 c0_i32_2
  let v10 : BitVec 32 := Scalar.extui v9
  let c0_i32_3 : BitVec 32 := 0#32
  let v11 : BitVec 1 := Scalar.cmpi .ne v10 c0_i32_3
  v11

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Common.lean ====
/-
  The all-to-all matrix product: what the parts of the run share.

  Four devices; device `c` holds columns block `c` of `x` (4096×1024), all of `w`, and computes rows block `c` of
  `max ((x · w) · (sx · sw), 0)`. At the first grid point each device turns its 4096×1024 block into four 1024×1024
  chunks in the short float format, keeps chunk `c` and sends chunk `b` to device `b`; so device `c` gathers the four
  chunks of ITS rows, and multiplies them by `w` block by block. At the other fifteen points it multiplies the gathered
  rows by one 512-column block of `w`.

  The cells, all of one round:
  * the BARRIER cell of device `c`: three duties `j = 0, 1, 2` of one unit, duty `j` paid by the device `j + 1` places
    before `c`; it hands `c` the landing slot of that device that `c` will write, and that the device stands at round 0
    of that slot's receive cell;
  * four COPY cells `r`: the local copy of rows block `c + r` of `x` into the staging scratch; the copy hands back both
    the source rows and the filled rows;
  * three SEND cells `j`: the read-out of the chunk for device `c + j + 1`, handing that chunk's rows back;
  * three RECEIVE cells `j`: the landing in slot `j` of the chunk sent by the device `j + 1` places before.

  Levels: barrier 1, receive 2, everything else 0. A device waits on its barrier and on its copies owing receive
  credits only, and on its send and receive cells owing nothing.
-/
module

public import proofs.«01_k».proof.Defs
public import Idealize.ShloMosaic.Lib.Pipeline.Launch
public import Idealize.ShloMosaic.Lib.Pipeline.Kit
public import Idealize.ShloMosaic.Lib.Memref
public import Idealize.ShloMosaic.Lib.Rounds
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's copy of the rounds library, its duties named by `Fin 3`. -/
abbrev UX : Type := URounds (GSem nD τ sig) (Fin 3)
/-- The pipeline's copy and the exchange's, side by side. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The launch memory: arbitrary contents, every semaphore counter zero. -/
def s₀ : MemSt nD τ sig (Elt F) := ⟨m, fun _ => 0, ρ⟩

/-! ## Who sends to whom -/

set_option backward.proofsInPublic true in
/-- The device `j + 1` places after `c`, -/
def fwd (j : Fin 3) (c : Dev nD) : Dev nD := ⟨(c.val + (j.val + 1)) % 4, Nat.mod_lt _ (by decide)⟩
set_option backward.proofsInPublic true in
/-- and the one `j + 1` places before. -/
def bwd (j : Fin 3) (c : Dev nD) : Dev nD := ⟨(c.val + (3 - j.val)) % 4, Nat.mod_lt _ (by decide)⟩

theorem bwd_fwd (j : Fin 3) (c : Dev nD) : bwd j (fwd j c) = c := by revert j c; decide
theorem fwd_bwd (j : Fin 3) (c : Dev nD) : fwd j (bwd j c) = c := by revert j c; decide
theorem fwd_rev (j : Fin 3) (c : Dev nD) : fwd j.rev c = bwd j c := by revert j c; decide
theorem bwd_rev (j : Fin 3) (c : Dev nD) : bwd j.rev c = fwd j c := by revert j c; decide
theorem fwd_ne (j : Fin 3) (c : Dev nD) : fwd j c ≠ c := by revert j c; decide

/-- Shifting by `j + 1` permutes the devices. -/
def shift (j : Fin 3) : Dev nD ≃ Dev nD := ⟨fwd j, bwd j, bwd_fwd j, fwd_bwd j⟩

set_option backward.proofsInPublic true in
/-- The rows block of device `c`'s `r`-th local copy. -/
def rot (r : Fin 4) (c : Dev nD) : Fin 4 := ⟨(c.val + r.val) % 4, Nat.mod_lt _ (by decide)⟩

theorem rot_zero (c : Dev nD) : rot 0 c = c := by revert c; decide
theorem rot_succ (j : Fin 3) (c : Dev nD) : rot j.succ c = fwd j c := by revert j c; decide
theorem rot_bij (c : Dev nD) : Function.Bijective (fun r => rot r c) := by revert c; decide

/-! ## Rectangles -/

theorem rowRect_inb (b : Fin 4) : ∀ a, (![1024 * b.val, 0] : Fin 2 → Nat) a + S1024x1024.size a ≤ S4096x1024.size a := by
  revert b; decide
theorem colRect_inb (b : Fin 4) : ∀ a, (![0, 1024 * b.val] : Fin 2 → Nat) a + S1024x1024.size a ≤ S1024x4096.size a := by
  revert b; decide
theorem wRect_inb (b : Fin 4) : ∀ a, (![1024 * b.val, 0] : Fin 2 → Nat) a + S1024x512.size a ≤ S4096x512.size a := by
  revert b; decide
theorem slotRect_inb (j : Fin 3) : ∀ a, (![j.val, 0, 0] : Fin 3 → Nat) a + S1x1024x1024.size a ≤ S3x1024x1024.size a := by
  revert j; decide

/-- Rows block `b` of a 4096×1024 buffer, -/
abbrev rowRect (b : Fin 4) : Rect S4096x1024 := Rect.unit (s := S4096x1024) ![1024 * b.val, 0] S1024x1024.size (rowRect_inb b)
/-- columns block `b` of a 1024×4096 buffer, -/
abbrev colRect (b : Fin 4) : Rect S1024x4096 := Rect.unit (s := S1024x4096) ![0, 1024 * b.val] S1024x1024.size (colRect_inb b)
/-- rows block `b` of a 4096×512 buffer, -/
abbrev wRect (b : Fin 4) : Rect S4096x512 := Rect.unit (s := S4096x512) ![1024 * b.val, 0] S1024x512.size (wRect_inb b)
/-- and slot `j` of the landing buffer. -/
abbrev slotRect (j : Fin 3) : Rect S3x1024x1024 := Rect.unit (s := S3x1024x1024) ![j.val, 0, 0] S1x1024x1024.size (slotRect_inb j)

/-! ## The memrefs -/

/-- The device's block of `x`, and the four scratch buffers: the rows copied, the chunks to send, the rows gathered, the
    three landing slots. -/
abbrev xM : Memref sig .tc .hbm S4096x1024 .f32 := Memref.whole main_arg0
abbrev cM : Memref sig .tc .vmem S4096x1024 .f32 := Memref.whole cc0_scratch0
abbrev sM : Memref sig .tc .vmem S4096x1024 .fp8e4m3 := Memref.whole cc0_scratch1
abbrev gM : Memref sig .tc .vmem S1024x4096 .fp8e4m3 := Memref.whole cc0_scratch2
abbrev lM : Memref sig .tc .vmem S3x1024x1024 .fp8e4m3 := Memref.whole cc0_scratch3

/-- Their blocks. -/
abbrev xRows (b : Fin 4) : Memref sig .tc .hbm S1024x1024 .f32 := xM.slice (rowRect b) (fun _ => rfl)
abbrev cRows (b : Fin 4) : Memref sig .tc .vmem S1024x1024 .f32 := cM.slice (rowRect b) (fun _ => rfl)
abbrev sRows (b : Fin 4) : Memref sig .tc .vmem S1024x1024 .fp8e4m3 := sM.slice (rowRect b) (fun _ => rfl)
abbrev slot3 (j : Fin 3) : Memref sig .tc .vmem S1x1024x1024 .fp8e4m3 := lM.slice (slotRect j) (fun _ => rfl)
/-- A slot, its unit axis dropped: what a transfer lands in. -/
abbrev slot (j : Fin 3) : Memref sig .tc .vmem S1024x1024 .fp8e4m3 := (slot3 j).squeeze S1024x1024 squeezes_S1x1024x1024_S1024x1024

/-! ## The cells -/

theorem sem4_inb (r : Fin 4) : ∀ a, (![r.val] : Fin 1 → Nat) a + S1.size a ≤ S4.size a := by revert r; decide
theorem sem3_inb (j : Fin 3) : ∀ a, (![j.val] : Fin 1 → Nat) a + S1.size a ≤ S3.size a := by revert j; decide

/-- The runtime's barrier semaphore, and the kernel's own ten. -/
abbrev barS : Sem sig := (SemArray.scalar (sig.barrier 0 rfl) : Sems sig S_).sem
abbrev copyS (r : Fin 4) : DmaSem sig :=
  ((cc0_scratch4.slice (Rect.unit (s := S4) ![r.val] S1.size (sem4_inb r))).squeeze S_ squeezes_S1_S_ : DmaSems sig S_).sem
abbrev sendS (j : Fin 3) : DmaSem sig :=
  ((cc0_scratch5.slice (Rect.unit (s := S3) ![j.val] S1.size (sem3_inb j))).squeeze S_ squeezes_S1_S_ : DmaSems sig S_).sem
abbrev recvS (j : Fin 3) : DmaSem sig :=
  ((cc0_scratch6.slice (Rect.unit (s := S3) ![j.val] S1.size (sem3_inb j))).squeeze S_ squeezes_S1_S_ : DmaSems sig S_).sem

/-- The kernel's own cells: copies, sends, receives; -/
abbrev OK : Type := Fin 4 ⊕ Fin 3 ⊕ Fin 3
/-- and with the barrier. -/
abbrev CK : Type := Unit ⊕ OK

abbrev kB : CK := .inl ()
abbrev kC (r : Fin 4) : CK := .inr (.inl r)
abbrev kS (j : Fin 3) : CK := .inr (.inr (.inl j))
abbrev kR (j : Fin 3) : CK := .inr (.inr (.inr j))

abbrev osem : OK → SemLoc sig
  | .inl r => .dma (copyS r)
  | .inr (.inl j) => .dma (sendS j)
  | .inr (.inr j) => .dma (recvS j)

abbrev csem : CK → SemLoc sig
  | .inl _ => .reg barS
  | .inr k => osem k

theorem osem_injective : Function.Injective osem := by decide
theorem csem_injective : Function.Injective csem := by
  rintro (⟨⟩ | k) (⟨⟩ | k') h
  · rfl
  · exact absurd h (by rcases k' with r | j | j <;> exact fun h => by cases h)
  · exact absurd h (by rcases k with r | j | j <;> exact fun h => by cases h)
  · exact congrArg _ (osem_injective h)

/-- Device `c`'s cell of a kind. -/
abbrev kcell (ck : Dev nD × CK) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  subst h1
  exact congrArg _ (csem_injective (congrArg Prod.snd h))

/-- Which of a device's cells a semaphore is, if any. -/
def kindOf (sm : SemLoc sig) : Option CK := Function.partialInv csem sm
theorem kindOf_csem (k : CK) : kindOf (csem k) = some k := Function.partialInv_left csem_injective k

abbrev barCell (c : Dev nD) : GSem nD τ sig := ((c : Thread nD τ), .reg barS)
abbrev copyCell (r : Fin 4) (c : Dev nD) : GSem nD τ sig := ((c : Thread nD τ), .dma (copyS r))
abbrev sendCell (j : Fin 3) (c : Dev nD) : GSem nD τ sig := ((c : Thread nD τ), .dma (sendS j))
abbrev recvCell (j : Fin 3) (c : Dev nD) : GSem nD τ sig := ((c : Thread nD τ), .dma (recvS j))

/-- What a local copy of one rows block credits, and what a sent chunk credits. -/
@[irreducible] def NC : ℕ := (cRows 0).view.dmaCredit
@[irreducible] def NX : ℕ := (sRows 0).view.dmaCredit

theorem chunk_pos : 0 < S1024x1024.numel := Finset.prod_pos fun a _ => by fin_cases a <;> decide
theorem NC_pos : 0 < NC := by unfold NC; exact View.dmaCredit_pos _ chunk_pos
theorem NX_pos : 0 < NX := by unfold NX; exact View.dmaCredit_pos _ chunk_pos
theorem credit_cRows (b : Fin 4) : (cRows b).view.dmaCredit = NC := by unfold NC; rfl
theorem credit_sRows (b : Fin 4) : (sRows b).view.dmaCredit = NX := by unfold NX; rfl
theorem credit_slot (j : Fin 3) : (slot j).view.dmaCredit = NX := by unfold NX; rfl

/-! ## Contents -/

/-- Device `o`'s columns block of `x`, as launched; -/
def xAt (o : Dev nD) : S4096x1024.Idx → Elt F .f32 := m ((o : Thread nD τ).loc main_arg0)
/-- its rows block `b`; -/
def rowsAt (o : Dev nD) (b : Fin 4) : S1024x1024.Idx → Elt F .f32 := fun i => xAt m o ((rowRect b).emb i)
/-- and that block in the short float format: the chunk device `o` has for device `b`. -/
def chunk (o : Dev nD) (b : Fin 4) : S1024x1024.Idx → Elt F .fp8e4m3 := k0_pay6 (rowsAt m o b)

/-- A memref of device `c` held whole at the full share. -/
abbrev held (c : Dev nD) {sp : Space} {sh : Shape} {e : EltTy} (M : Memref sig .tc sp sh e) (X : sh.Idx → Elt F e) : sProp 𝕄 :=
  owns (c : Thread nD τ) M fullShare X

/-! ## The schedule -/

/-- What duty `d` of a device's cell hands the device. -/
def pay (c : Dev nD) : CK → Fin 3 → sProp 𝕄
  | .inl _, d => iprop((∃ X, held (bwd d c) (slot d.rev) X) ∗ reached EX (recvCell d.rev (bwd d c)) 0)
  | .inr (.inl r), _ => iprop(held c (cRows (rot r c)) (rowsAt m c (rot r c)) ∗ held c (xRows (rot r c)) (rowsAt m c (rot r c)))
  | .inr (.inr (.inl j)), _ => held c (sRows (fwd j c)) (chunk m c (fwd j c))
  | .inr (.inr (.inr j)), _ => held c (slot j) (chunk m (bwd j c) c)

theorem pay_bar (c : Dev nD) (d : Fin 3) : pay (F := F) m c kB d
    = iprop((∃ X, held (bwd d c) (slot d.rev) X) ∗ reached EX (recvCell d.rev (bwd d c)) 0) := rfl
theorem pay_copy (c : Dev nD) (r : Fin 4) (d : Fin 3) : pay (F := F) m c (kC r) d
    = iprop(held c (cRows (rot r c)) (rowsAt m c (rot r c)) ∗ held c (xRows (rot r c)) (rowsAt m c (rot r c))) := rfl
theorem pay_send (c : Dev nD) (j d : Fin 3) : pay (F := F) m c (kS j) d = held c (sRows (fwd j c)) (chunk m c (fwd j c)) := rfl
theorem pay_recv (c : Dev nD) (j d : Fin 3) : pay (F := F) m c (kR j) d = held c (slot j) (chunk m (bwd j c) c) := rfl

instance pay_storable (c : Dev nD) (k : CK) (d : Fin 3) : BI.Storable (upEmb : UEmb _ 𝕄) (pay m c k d) := by
  rcases k with ⟨⟩ | r | j | j <;> (unfold pay; infer_instance)

/-- A cell's duties and the units of one. -/
def dutiesOf : CK → Finset (Fin 3)
  | .inl _ => Finset.univ
  | .inr _ => {0}
def unitsOf : CK → ℕ
  | .inl _ => 1
  | .inr (.inl _) => NC
  | .inr (.inr _) => NX

theorem units_copy (r : Fin 4) : unitsOf (kC r) = NC := rfl
theorem units_send (j : Fin 3) : unitsOf (kS j) = NX := rfl
theorem units_recv (j : Fin 3) : unitsOf (kR j) = NX := rfl

theorem unitsOf_pos (k : CK) : 0 < unitsOf k := by
  rcases k with ⟨⟩ | r | j
  · exact Nat.one_pos
  · exact NC_pos
  · exact NX_pos

theorem units_pos : ∀ o : Option CK, 0 < o.elim 1 unitsOf
  | none => Nat.one_pos
  | some k => unitsOf_pos k

/-- The exchange's schedule: one round on each of a device's eleven cells. -/
def exRd : Rounds.Schedule (GSem nD τ sig) (Fin 3) 𝕄 where
  duties g r := if r = 0 ∧ g.1.2 = .tc then (kindOf g.2).elim ∅ dutiesOf else ∅
  unitless _ := False
  amount g _ _ := (kindOf g.2).elim 1 unitsOf
  payload g _ d := (kindOf g.2).elim iprop(emp) (fun k => pay m g.1.1 k d)
  amount_pos g _ _ _ := units_pos (kindOf g.2)

instance exRd_payload_storable (g : GSem nD τ sig) (r : ℕ) (d : Fin 3) :
    BI.Storable (upEmb : UEmb _ 𝕄) ((exRd (F := F) m).payload g r d) := by
  show BI.Storable upEmb ((kindOf g.2).elim iprop(emp) (fun k => pay m g.1.1 k d))
  rcases kindOf g.2 with _ | k
  · show BI.Storable upEmb (iprop(emp) : sProp 𝕄); infer_instance
  · exact pay_storable m g.1.1 k d

theorem duties_kcell (c : Dev nD) (k : CK) : (exRd (F := F) m).duties (kcell (c, k)) 0 = dutiesOf k := by
  show (if 0 = 0 ∧ (kcell (c, k)).1.2 = .tc then (kindOf (csem k)).elim ∅ dutiesOf else ∅) = _
  rw [if_pos ⟨rfl, rfl⟩, kindOf_csem]; rfl
theorem amount_kcell (c : Dev nD) (k : CK) (d : Fin 3) : (exRd (F := F) m).amount (kcell (c, k)) 0 d = unitsOf k := by
  show (kindOf (csem k)).elim 1 unitsOf = _
  rw [kindOf_csem]; rfl
theorem payload_kcell (c : Dev nD) (k : CK) (d : Fin 3) : (exRd (F := F) m).payload (kcell (c, k)) 0 d = pay m c k d := by
  show (kindOf (csem k)).elim iprop(emp) (fun k => pay m c k d) = _
  rw [kindOf_csem]; rfl
/-- After round 0 no cell has a duty. -/
theorem duties_later (g : GSem nD τ sig) : ∀ r, 1 ≤ r → (exRd (F := F) m).duties g r = ∅ :=
  fun r hr => if_neg fun h => by omega
theorem expect_kcell (c : Dev nD) (k : CK) : (exRd (F := F) m).expect (kcell (c, k)) 0 = (dutiesOf k).card * unitsOf k := by
  unfold Schedule.expect Schedule.amountOf
  rw [duties_kcell, Finset.sum_congr rfl fun d _ => amount_kcell m c k d, Finset.sum_const, smul_eq_mul]
/-- What a whole round hands over. -/
theorem rest_kcell (c : Dev nD) (k : CK) :
    bigSep ((exRd (F := F) m).duties (kcell (c, k)) 0 \ ∅) (fun d => (exRd (F := F) m).payload (kcell (c, k)) 0 d)
      = bigSep (dutiesOf k) (pay m c k) := by
  rw [Finset.sdiff_empty, duties_kcell]
  exact bigSep_congr fun d _ => payload_kcell m c k d
theorem rest_own (c : Dev nD) (k : OK) : bigSep (dutiesOf (.inr k)) (pay (F := F) m c (.inr k)) = pay m c (.inr k) 0 := by
  show bigSep {0} _ = _
  rw [bigSep_singleton]
theorem rest_bar (c : Dev nD) : bigSep (dutiesOf kB) (pay (F := F) m c kB) = iprop(pay m c kB 0 ∗ pay m c kB 1 ∗ pay m c kB 2) :=
  bigSep_univ_eq_bigSepL [0, 1, 2] (by decide) (by decide) _

/-! ## What each device owes at launch, and the levels -/

/-- What is owed with the sends from the third, the second, the first still to make; -/
def owe2 (c : Dev nD) : CellTallies nD τ sig Unit := 0 + tallyAt (recvCell 2 (fwd 2 c)) () NX
def owe1 (c : Dev nD) : CellTallies nD τ sig Unit := owe2 c + tallyAt (recvCell 1 (fwd 1 c)) () NX
def owe0 (c : Dev nD) : CellTallies nD τ sig Unit := owe1 c + tallyAt (recvCell 0 (fwd 0 c)) () NX
/-- and with the signals from the third, the second, the first. -/
def oweB2 (c : Dev nD) : CellTallies nD τ sig Unit := owe0 c + tallyAt (barCell (fwd 2 c)) () 1
def oweB1 (c : Dev nD) : CellTallies nD τ sig Unit := oweB2 c + tallyAt (barCell (fwd 1 c)) () 1
def O₀ (c : Dev nD) : CellTallies nD τ sig Unit := oweB1 c + tallyAt (barCell (fwd 0 c)) () 1

/-- Every TensorCore cell has the one index `()` levelled: -/
def L (g : GSem nD τ sig) : Finset Unit := if g.1.2 = .tc then {()} else ∅
/-- barrier cells at 1, receive cells at 2, everything else at 0. -/
def lvK : CK → ℕ
  | .inl _ => 1
  | .inr (.inr (.inr _)) => 2
  | _ => 0
def lv (g : GSem nD τ sig) (_ : Unit) : ℕ := (kindOf g.2).elim 0 lvK

theorem L_of_ne (g : GSem nD τ sig) (h : g.1.2 ≠ .tc) : L g = ∅ := if_neg h
theorem L_tc (g : GSem nD τ sig) (h : g.1.2 = .tc) : L g = {()} := if_pos h
theorem lv_kcell (c : Dev nD) (k : CK) : lv (kcell (c, k)) () = lvK k := by
  show (kindOf (csem k)).elim 0 lvK = _
  rw [kindOf_csem]; rfl

/-- Everything in `O` is owed to TensorCore cells at level `n` or above. -/
def Above (n : ℕ) (O : CellTallies nD τ sig Unit) : Prop := ∀ g u, 0 < O g u → g.1.2 = .tc ∧ n ≤ lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (k : CK) (a : ℕ) (hk : n ≤ lvK k) : Above n (tallyAt (kcell (c, k)) () a) := fun g u hg => by
  rw [tallyAt_apply] at hg
  by_cases h : g = kcell (c, k) ∧ u = ()
  · rw [h.1]; exact ⟨rfl, by rw [lv_kcell]; exact hk⟩
  · rw [if_neg h] at hg; exact absurd hg (Nat.lt_irrefl 0)
theorem above_mono {n n' : ℕ} (hn : n' ≤ n) {O : CellTallies nD τ sig Unit} (h : Above n O) : Above n' O :=
  fun g u hg => ⟨(h g u hg).1, hn.trans (h g u hg).2⟩

theorem above_owe2 (c : Dev nD) : Above 2 (owe2 c) := above_add (above_zero 2) (above_tally _ (kR 2) _ le_rfl)
theorem above_owe1 (c : Dev nD) : Above 2 (owe1 c) := above_add (above_owe2 c) (above_tally _ (kR 1) _ le_rfl)
theorem above_owe0 (c : Dev nD) : Above 2 (owe0 c) := above_add (above_owe1 c) (above_tally _ (kR 0) _ le_rfl)
theorem above_O₀ (c : Dev nD) : Above 1 (O₀ c) :=
  above_add (above_add (above_add (above_mono (by decide) (above_owe0 c)) (above_tally _ kB _ le_rfl)) (above_tally _ kB _ le_rfl))
    (above_tally _ kB _ le_rfl)

omit [FloatOps F] in
/-- A device may wait on a cell of its own below everything it owes. -/
theorem mayWait_of (c : Dev nD) (sm : SemLoc sig) {n : ℕ} (hsm : lv ((c : Thread nD τ), sm) () ≤ n) {O : CellTallies nD τ sig Unit} (hO : Above (n + 1) O) :
    (levAts L lv : sProp 𝕄) ⊢ MayWait (c : Thread nD τ) sm () O :=
  MayOwe.of_cut (L := L) (lev := lv) n (fun p hp => by rw [Finset.mem_singleton.mp hp, L_tc _ rfl]; exact Finset.mem_singleton_self _)
    (fun g u hg => by rw [L_tc g (hO g u hg).1]; exact Finset.mem_singleton_self _)
    (fun p hp => by rw [Finset.mem_singleton.mp hp]; exact hsm)
    (fun g u hg => Nat.lt_of_succ_le (hO g u hg).2)

omit [FloatOps F] in
theorem mayWait_kcell (c : Dev nD) (k : CK) {O : CellTallies nD τ sig Unit} (hO : Above (lvK k + 1) O) :
    (levAts L lv : sProp 𝕄) ⊢ MayWait (c : Thread nD τ) (csem k) () O :=
  mayWait_of c (csem k) (n := lvK k) (by rw [lv_kcell]) hO

/-! ## The ghost state a device starts from -/

/-- Every cell's invariant, at the names the launch allocated, and that every cell stands at round 0. -/
def records (K : Dev nD × CK → ℕ) : sProp 𝕄 :=
  iprop((bigSep Finset.univ fun ck : Dev nD × CK => cellInv EX (exRd m) (K ck) (kcell ck))
    ∗ bigSep Finset.univ fun ck : Dev nD × CK => reached EX (kcell ck) 0)

instance records_persistent (K : Dev nD × CK → ℕ) : BI.Persistent (records m K) := by unfold records; infer_instance

theorem inv_at (K : Dev nD × CK → ℕ) (c : Dev nD) (k : CK) : records m K ⊢ cellInv EX (exRd m) (K (c, k)) (kcell (c, k)) := by
  unfold records
  iintro ⟨HI, -⟩
  have h : (bigSep Finset.univ fun ck : Dev nD × CK => cellInv EX (exRd (F := F) m) (K ck) (kcell ck)) ⊢ cellInv EX (exRd m) (K (c, k)) (kcell (c, k)) :=
    bigSep_elim (Finset.mem_univ (c, k))
  iapply h; iexact HI
theorem reached_at (K : Dev nD × CK → ℕ) (c : Dev nD) (k : CK) : records m K ⊢ reached EX (kcell (c, k)) 0 := by
  unfold records
  iintro ⟨-, HR⟩
  have h : (bigSep Finset.univ fun ck : Dev nD × CK => reached EX (kcell ck) 0) ⊢ (reached EX (kcell (c, k)) 0 : sProp 𝕄) :=
    bigSep_elim (Finset.mem_univ (c, k))
  iapply h; iexact HR

/-- Device `c`'s positions, one per cell, -/
def positions (c : Dev nD) : sProp 𝕄 :=
  iprop(atPos EX (barCell c) 0 ∅ 0
    ∗ (atPos EX (copyCell 0 c) 0 ∅ 0 ∗ atPos EX (copyCell 1 c) 0 ∅ 0 ∗ atPos EX (copyCell 2 c) 0 ∅ 0 ∗ atPos EX (copyCell 3 c) 0 ∅ 0)
    ∗ (atPos EX (sendCell 0 c) 0 ∅ 0 ∗ atPos EX (sendCell 1 c) 0 ∅ 0 ∗ atPos EX (sendCell 2 c) 0 ∅ 0)
    ∗ (atPos EX (recvCell 0 c) 0 ∅ 0 ∗ atPos EX (recvCell 1 c) 0 ∅ 0 ∗ atPos EX (recvCell 2 c) 0 ∅ 0))

/-- and the tokens of the duties it pays: three signals, four copies, three sends, three landings. -/
def payToks (c : Dev nD) : sProp 𝕄 :=
  iprop((dutyTok EX (barCell (fwd 0 c)) 0 0 ∗ dutyTok EX (barCell (fwd 1 c)) 0 1 ∗ dutyTok EX (barCell (fwd 2 c)) 0 2)
    ∗ (dutyTok EX (copyCell 0 c) 0 0 ∗ dutyTok EX (copyCell 1 c) 0 0 ∗ dutyTok EX (copyCell 2 c) 0 0 ∗ dutyTok EX (copyCell 3 c) 0 0)
    ∗ (dutyTok EX (sendCell 0 c) 0 0 ∗ dutyTok EX (sendCell 1 c) 0 0 ∗ dutyTok EX (sendCell 2 c) 0 0)
    ∗ (dutyTok EX (recvCell 0 (fwd 0 c)) 0 0 ∗ dutyTok EX (recvCell 1 (fwd 1 c)) 0 0 ∗ dutyTok EX (recvCell 2 (fwd 2 c)) 0 0))

def ghost (K : Dev nD × CK → ℕ) (c : Dev nD) : sProp 𝕄 := iprop(records m K ∗ positions c ∗ payToks c)

/-- The credit a device waits with that others owe it: its barrier's three units and its three landings. -/
def credits (c : Dev nD) : sProp 𝕄 :=
  iprop(cred (tallyAt (barCell c) () 3)
    ∗ cred (tallyAt (recvCell 0 c) () NX) ∗ cred (tallyAt (recvCell 1 c) () NX) ∗ cred (tallyAt (recvCell 2 c) () NX))

/-- A whole scratch at some contents. -/
abbrev someAt (c : Dev nD) {sp : Space} {sh : Shape} {e : EltTy} (M : Memref sig .tc sp sh e) : sProp 𝕄 := iprop(∃ X, held (F := F) c M X)

end Cert.Proof

end
-- ==== Proof.Steps.lean ====
/-
  One rule per effect of the body, in the terms of the exchange.

  Memory effects are stated over memrefs owned at known contents (`held`): a load at a unit-stride rectangle reads the
  contents there, a store lays the stored vector over them, and the same for a memref owned only on that rectangle. The
  exchange's effects — a signal, a local copy, a send, a wait — are the rounds library's rules at this schedule's cells.
  The program spells offsets, devices and semaphores by its own chains; each rule takes them as variables with an equation
  to the name used here.
-/
module

public import proofs.«01_k».proof.Proof.Common

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The weakest precondition of the body's effects -/

abbrev 𝒱₀ : Variants := Variants.none

/-- The body's weakest precondition on device `c`'s TensorCore. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Memory

variable {c : Dev nD} {s : Shape} {e : EltTy}

omit [FloatOps F] in
/-- A held memref, opened: buffer contents that read as `X`. -/
theorem held_open {sp : Space} (M : Memref sig .tc sp s e) (X : s.Idx → Elt F e) :
    (held c M X : sProp 𝕄) ⊢ iprop(∃ f, ⌜M.view.read (Elt F) f = X⌝ ∗ (M.view.loc (c : Thread nD τ) ↦[M.view.set]{fullShare} f)) := .rfl

/-- A load at a rectangle of a held memref reads the contents there. -/
theorem load_at {α : Type} (M : Memref sig .tc .vmem s e) {off : Fin s.rank → ℕ} (off' : Fin s.rank → ℕ) {size : Fin s.rank → ℕ}
    {hin : ∀ a, off a + size a ≤ s.size a} (h : off = off') (hin' : ∀ a, off' a + size a ≤ s.size a)
    {hl : M.view.LoadsAt (Rect.unit off size hin).toLoadRect} {X : s.Idx → Elt F e}
    {k : ((Rect.unit off size hin).shape.Idx → Elt F e) → Prog (TpuEff nD τ sig (Elt F) Λ₀ .tc) α}
    {Q : α → sProp 𝕄} :
    (held c M X : sProp 𝕄)
      ⊢ iprop((held c M X -∗ wpc c (k fun i => X ((Rect.unit off' size hin').emb i)) Q)
          -∗ wpc c (.op (.load M (Rect.unit off size hin).toLoadRect hl) k) Q) := by
  subst h
  iintro H Hk
  ihave H := (held_open M X) $$ H
  icases H with ⟨%f, %hf, H⟩
  iapply (wp_load_rect 𝒱₀ (c : Thread nD τ) none Set.univ (m := M) (r := Rect.unit off size hin) (S := M.view.set)
    (View.set_slice_subset _ _)) $$ H
  iintro H
  have hv : (M.access (Rect.unit off size hin)).read (Elt F) f = fun i => X ((Rect.unit off size hin).emb i) := by rw [← hf]; rfl
  rw [hv]
  iapply Hk
  unfold held owns
  iexists f
  isplitr; · ipureintro; exact hf
  iexact H

/-- The same with only that rectangle's part of the memref held. -/
theorem load_part {α : Type} (M : Memref sig .tc .vmem s e) {off : Fin s.rank → ℕ} (off' : Fin s.rank → ℕ) {size : Fin s.rank → ℕ}
    {hin : ∀ a, off a + size a ≤ s.size a} (h : off = off') (hin' : ∀ a, off' a + size a ≤ s.size a)
    {hl : M.view.LoadsAt (Rect.unit off size hin).toLoadRect} {X : (Rect.unit off' size hin').shape.Idx → Elt F e}
    {k : ((Rect.unit off size hin).shape.Idx → Elt F e) → Prog (TpuEff nD τ sig (Elt F) Λ₀ .tc) α}
    {Q : α → sProp 𝕄} :
    (held c (M.slice (Rect.unit off' size hin') (fun _ => rfl)) X : sProp 𝕄)
      ⊢ iprop((held c (M.slice (Rect.unit off' size hin') (fun _ => rfl)) X -∗ wpc c (k X) Q)
          -∗ wpc c (.op (.load M (Rect.unit off size hin).toLoadRect hl) k) Q) := by
  subst h
  iintro H Hk
  ihave H := (held_open _ X) $$ H
  icases H with ⟨%f, %hf, H⟩
  iapply (wp_load_rect 𝒱₀ (c : Thread nD τ) none Set.univ (m := M) (r := Rect.unit off size hin)
    (S := (M.access (Rect.unit off size hin)).set) (Finset.Subset.refl _)) $$ H
  iintro H
  have hv : (M.access (Rect.unit off size hin)).read (Elt F) f = X := hf
  rw [hv]
  iapply Hk
  unfold held owns
  iexists f
  isplitr; · ipureintro; exact hf
  iexact H

/-- A store at a rectangle, only that rectangle's part of the memref held: the part holds the stored vector. -/
theorem store_part {α : Type} (M : Memref sig .tc .vmem s e) {off : Fin s.rank → ℕ} (off' : Fin s.rank → ℕ) {size : Fin s.rank → ℕ}
    {hin : ∀ a, off a + size a ≤ s.size a} (h : off = off') (hin' : ∀ a, off' a + size a ≤ s.size a)
    {w : (Rect.unit off' size hin').shape.Idx → Elt F e} {hx : (M.access (Rect.unit off size hin)).Stores Finset.univ}
    {hm : (Finset.univ : Finset (Rect.unit off size hin).shape.Idx) = Finset.univ ∨ ∀ a, (Rect.unit off size hin).stride a = 1}
    {X : (Rect.unit off' size hin').shape.Idx → Elt F e} {k : PUnit → Prog (TpuEff nD τ sig (Elt F) Λ₀ .tc) α}
    {Q : α → sProp 𝕄} :
    (held c (M.slice (Rect.unit off' size hin') (fun _ => rfl)) X : sProp 𝕄)
      ⊢ iprop((held c (M.slice (Rect.unit off' size hin') (fun _ => rfl)) w -∗ wpc c (k ⟨⟩) Q)
          -∗ wpc c (.op (.store M (Rect.unit off size hin) w Finset.univ hx hm) k) Q) := by
  subst h
  iintro H Hk
  ihave H := (held_open _ X) $$ H
  icases H with ⟨%f, %hf, H⟩
  iapply (wp_store 𝒱₀ (c : Thread nD τ) none Set.univ (m := M) (r := Rect.unit off size hin)
    (S := (M.access (Rect.unit off size hin)).set) (View.setOn_subset_set _ _)) $$ H
  iintro H
  iapply Hk
  unfold held owns
  iexists ((M.access (Rect.unit off size hin)).write (Elt F) f w Finset.univ)
  isplitr; · ipureintro; exact View.read_write_univ f w
  iexact H

/-- A store at a rectangle of a held memref lays the stored vector over the contents. -/
theorem store_at {α : Type} (M : Memref sig .tc .vmem s e) {off : Fin s.rank → ℕ} (off' : Fin s.rank → ℕ) {size : Fin s.rank → ℕ}
    {hin : ∀ a, off a + size a ≤ s.size a} (h : off = off') (hin' : ∀ a, off' a + size a ≤ s.size a)
    {w : (Rect.unit off' size hin').shape.Idx → Elt F e} {hx : (M.access (Rect.unit off size hin)).Stores Finset.univ}
    {hm : (Finset.univ : Finset (Rect.unit off size hin).shape.Idx) = Finset.univ ∨ ∀ a, (Rect.unit off size hin).stride a = 1}
    {X : s.Idx → Elt F e} {k : PUnit → Prog (TpuEff nD τ sig (Elt F) Λ₀ .tc) α}
    {Q : α → sProp 𝕄} :
    (held c M X : sProp 𝕄)
      ⊢ iprop((held c M ((Rect.unit off' size hin').overlay X w) -∗ wpc c (k ⟨⟩) Q)
          -∗ wpc c (.op (.store M (Rect.unit off size hin) w Finset.univ hx hm) k) Q) := by
  iintro H Hk
  ihave H := (owns_slice_split (c : Thread nD τ) M fullShare (Rect.unit off' size hin') (fun _ => rfl) X) $$ H
  icases H with ⟨H, ⟨%f, %hf, Hr⟩⟩
  iapply (store_part (c := c) M off' h hin') $$ H
  iintro H
  iapply Hk
  rw [← hf]
  iapply (owns_slice_join (c : Thread nD τ) M fullShare (Rect.unit off' size hin') (fun _ => rfl))
  isplitl [H]; · iexact H
  iexact Hr

/-- A load at a rectangle just stored to reads the stored vector. -/
theorem load_over {α : Type} (M : Memref sig .tc .vmem s e) {off : Fin s.rank → ℕ} (off' : Fin s.rank → ℕ) {size : Fin s.rank → ℕ}
    {hin : ∀ a, off a + size a ≤ s.size a} (h : off = off') (hin' : ∀ a, off' a + size a ≤ s.size a)
    {hl : M.view.LoadsAt (Rect.unit off size hin).toLoadRect} {X : s.Idx → Elt F e} {w : (Rect.unit off' size hin').shape.Idx → Elt F e}
    {k : ((Rect.unit off size hin).shape.Idx → Elt F e) → Prog (TpuEff nD τ sig (Elt F) Λ₀ .tc) α}
    {Q : α → sProp 𝕄} :
    (held c M ((Rect.unit off' size hin').overlay X w) : sProp 𝕄)
      ⊢ iprop((held c M ((Rect.unit off' size hin').overlay X w) -∗ wpc c (k w) Q)
          -∗ wpc c (.op (.load M (Rect.unit off size hin).toLoadRect hl) k) Q) := by
  subst h
  have hw : (fun i => (Rect.unit off size hin').overlay X w ((Rect.unit off size hin').emb i)) = w :=
    funext fun i => Rect.overlay_emb _ _ _ i
  have := load_at (c := c) (Q := Q) M off rfl hin' (hl := hl) (X := (Rect.unit off size hin').overlay X w) (k := k)
  rw [hw] at this
  exact this

end Memory

section Whole

variable {c : Dev nD} {e : EltTy}

omit [FloatOps F] in
theorem off_zero : (![0, 0] : Fin 2 → ℕ) = fun _ => 0 := funext fun a => by fin_cases a <;> rfl

omit [FloatOps F] in
/-- The rectangle at the origin of a shape's own sizes is the identity on indices. -/
theorem whole_emb (s : Shape) (off : Fin s.rank → ℕ) (hoff : off = fun _ => 0) (hin : ∀ a, off a + s.size a ≤ s.size a) (i : s.Idx) :
    (Rect.unit off s.size hin).emb i = i := by
  subst hoff
  funext a
  apply Fin.ext
  show 0 + 1 * (i a).val = (i a).val
  omega

/-- A load of all of a held memref reads its contents; -/
theorem load_whole {α : Type} {s : Shape} (M : Memref sig .tc .vmem s e) {off : Fin s.rank → ℕ} (hoff : off = fun _ => 0)
    {hin : ∀ a, off a + s.size a ≤ s.size a}
    {hl : M.view.LoadsAt (Rect.unit off s.size hin).toLoadRect} {X : s.Idx → Elt F e}
    {k : ((Rect.unit off s.size hin).shape.Idx → Elt F e) → Prog (TpuEff nD τ sig (Elt F) Λ₀ .tc) α}
    {Q : α → sProp 𝕄} :
    (held c M X : sProp 𝕄)
      ⊢ iprop((held c M X -∗ wpc c (k X) Q) -∗ wpc c (.op (.load M (Rect.unit off s.size hin).toLoadRect hl) k) Q) := by
  have hw : (fun i => X ((Rect.unit off s.size hin).emb i)) = X := funext fun i => congrArg X (whole_emb s off hoff hin i)
  have := load_at (c := c) (Q := Q) M off rfl hin (hl := hl) (X := X) (k := k)
  rw [hw] at this
  exact this

/-- a store to all of it replaces them. -/
theorem store_whole {α : Type} {s : Shape} (M : Memref sig .tc .vmem s e) {off : Fin s.rank → ℕ} (hoff : off = fun _ => 0)
    {hin : ∀ a, off a + s.size a ≤ s.size a}
    {w : s.Idx → Elt F e} {hx : (M.access (Rect.unit off s.size hin)).Stores Finset.univ}
    {hm : (Finset.univ : Finset (Rect.unit off s.size hin).shape.Idx) = Finset.univ ∨ ∀ a, (Rect.unit off s.size hin).stride a = 1}
    {X : s.Idx → Elt F e} {k : PUnit → Prog (TpuEff nD τ sig (Elt F) Λ₀ .tc) α}
    {Q : α → sProp 𝕄} :
    (held c M X : sProp 𝕄)
      ⊢ iprop((held c M w -∗ wpc c (k ⟨⟩) Q)
          -∗ wpc c (.op (.store M (Rect.unit off s.size hin) w Finset.univ hx hm) k) Q) := by
  have hw : (Rect.unit off s.size hin).overlay X w = w :=
    funext fun i => by
      have h := Rect.overlay_emb (Rect.unit off s.size hin) X w i
      rw [whole_emb s off hoff hin i] at h
      exact h
  have := store_at (c := c) (Q := Q) M off rfl hin (hx := hx) (hm := hm) (X := X) (w := w) (k := k)
  rw [hw] at this
  exact this

/-- The one index of a one-element vector. -/
def ix0 : S1.Idx := fun a => ⟨0, by revert a; decide⟩

/-- A word read of a held one-element memref. -/
theorem smem_load {α : Type} (M : Memref sig .tc .smem S1 .f32) {X : S1.Idx → Elt F .f32} {r : Rect S1} {hw : (M.access r).Loads} {x : r.shape.Idx}
    {k : Elt F .f32 → Prog (TpuEff nD τ sig (Elt F) Λ₀ .tc) α}
    {Q : α → sProp 𝕄} :
    (held c M X : sProp 𝕄) ⊢ iprop((held c M X -∗ wpc c (k (X ix0)) Q) -∗ wpc c (smemLoadElt M r hw x k) Q) := by
  iintro H Hk
  ihave H := (held_open M X) $$ H
  icases H with ⟨%f, %hf, H⟩
  iapply (wp_smemLoadElt 𝒱₀ (c : Thread nD τ) none Set.univ (m := M) (r := r) (x := x) (S := M.view.set) (View.set_slice_subset _ _)) $$ H
  iintro H
  have hv : (M.access r).read (Elt F) f x = X ix0 := by
    rw [← hf]
    show M.view.read (Elt F) f (r.emb x) = M.view.read (Elt F) f ix0
    exact congrArg _ (funext fun a => Fin.ext (by
      have h1 := (r.emb x a).isLt; have h2 := (ix0 a).isLt
      have h3 : ∀ a, S1.size a = 1 := by decide
      have h4 := h3 a
      omega))
  rw [hv]
  iapply Hk
  unfold held owns
  iexists f
  isplitr; · ipureintro; exact hf
  iexact H

end Whole

end Cert.Proof

end
-- ==== Proof.Exchange.lean ====
/-
  The exchange's effects, at this schedule's cells: the three signals, the four local copies, the three sends, and the
  waits. A wait on one of a device's own cells hands over that cell's payload; the wait on the barrier hands over the three
  landing slots this device is to fill.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- A device's debts, whatever pairs its waits have recorded. -/
abbrev owing (c : Dev nD) (O : CellTallies nD τ sig Unit) : sProp 𝕄 := iprop(∃ W, owes (c : Thread nD τ) O W)

/-! ## Signals -/

/-- Signal `j`, to the device `j + 1` places after: it hands over this device's landing slot `2 - j`, and pays one unit of
    that device's barrier. -/
theorem signal_step (c n : Dev nD) (j : Fin 3) (hn : n = fwd j c) {O₁ : CellTallies nD τ sig Unit} (O : CellTallies nD τ sig Unit)
    (hO : O₁ = O + tallyAt (barCell (fwd j c)) () 1) {α : Type} {k : PUnit → Prog (TpuEff nD τ sig (Elt F) Λ₀ .tc) α} {Q : α → sProp 𝕄} :
    iprop(records m K ∗ owing c O₁ ∗ dutyTok EX (barCell (fwd j c)) 0 j ∗ someAt c (slot j.rev))
      ⊢ iprop((owing c O -∗ wpc c (k ⟨⟩) Q) -∗ wpc c (.op (.semSignal (n : Thread nD τ) barS 1) k) Q) := by
  subst hn
  iintro ⟨#HR, ⟨%W, HO⟩, Ht, Hs⟩ Hk
  iapply (Rounds.wp_signal 𝒱₀ EX (exRd m) (c : Thread nD τ) none (dst := (fwd j c : Thread nD τ)) (κ := K (fwd j c, kB))
      (by rw [show ((fwd j c : Thread nD τ), SemLoc.reg barS) = kcell (fwd j c, kB) from rfl, duties_kcell]; exact Finset.mem_univ j)
      (amount_kcell m (fwd j c) kB j) () O hO) $$ [HO Ht Hs]
  · isplitr; · iapply (inv_at m K (fwd j c) kB); iexact HR
    isplitl [HO]; · iexact HO
    isplitl [Ht]; · iexact Ht
    isplitl [Hs]
    · rw [show ((fwd j c : Thread nD τ), SemLoc.reg barS) = kcell (fwd j c, kB) from rfl, payload_kcell, pay_bar, bwd_fwd]
      isplitl [Hs]; · iexact Hs
      iapply (reached_at m K c (kR j.rev)); iexact HR
    · iapply (reached_at m K (fwd j c) kB); iexact HR
  iintro HO
  iapply Hk
  iexists W; iexact HO

/-! ## The barrier -/

/-- The wait on the barrier, owing the three landings: the slots this device fills come with it. -/
theorem barrier_step (c : Dev nD) {α : Type} {k : PUnit → Prog (TpuEff nD τ sig (Elt F) Λ₀ .tc) α} {Q : α → sProp 𝕄} :
    iprop(records m K ∗ cred (tallyAt (barCell c) () 3) ∗ owing c (owe0 c) ∗ levAts L lv ∗ atPos EX (barCell c) 0 ∅ 0)
      ⊢ iprop((owing c (owe0 c) ∗ atPos EX (barCell c) 1 ∅ 0
            ∗ someAt (fwd 0 c) (slot 0) ∗ someAt (fwd 1 c) (slot 1) ∗ someAt (fwd 2 c) (slot 2) -∗ wpc c (k ⟨⟩) Q)
          -∗ wpc c (.op (.semWait barS 3) k) Q) := by
  iintro ⟨#HR, Hc, ⟨%W, HO⟩, #Hlev, Hat⟩ Hk
  iapply (Rounds.wp_wait_rest_token 𝒱₀ EX (exRd m) (c : Thread nD τ) none (κ := K (c, kB))
      (wpE_semWait_eq 𝒱₀ (c : Thread nD τ) none Set.univ) (Set.mem_univ _) () (O := owe0 c) (W := W) (R := 0) (m := 0) (T := ∅)
      (by rw [show ((c : Thread nD τ), SemLoc.reg barS) = kcell (c, kB) from rfl, expect_kcell]; rfl)) $$ [Hc HO Hat]
  · isplitr; · iapply (inv_at m K c kB); iexact HR
    isplitl [Hc]; · iexact Hc
    isplitl [HO]; · iexact HO
    isplitr; · iapply (mayWait_kcell c kB (above_owe0 c)); iexact Hlev
    iexact Hat
  iintro ⟨HO, Hat, -, Hp⟩
  ihave Hp := (Entails.of_eq ((rest_kcell m c kB).trans (rest_bar m c))) $$ Hp
  rw [pay_bar, pay_bar, pay_bar]
  icases Hp with ⟨⟨H2, -⟩, ⟨H1, -⟩, ⟨H0, -⟩⟩
  iapply Hk
  isplitl [HO]; · iexists _; iexact HO
  isplitl [Hat]; · iexact Hat
  isplitl [H0]; · iexact H0
  isplitl [H1]; · iexact H1
  iexact H2

/-! ## Waits on a device's own cells -/

/-- A wait for all of an own cell's one payment hands over the cell's payload. -/
theorem wait_step (c : Dev nD) (κ : OK) {σ : DmaSem sig} (hσ : SemLoc.dma σ = osem κ) {O : CellTallies nD τ sig Unit}
    (hO : Above (lvK (.inr κ) + 1) O) {N : ℕ} (hκ : unitsOf (.inr κ) = N) {P : sProp 𝕄} (hP : pay m c (.inr κ) 0 = P)
    {sp sp' : Space} {s : Shape} {e e' : EltTy} {src : Memref sig .tc sp s e} {dst : Memref sig .tc sp' s e'}
    {hsrc : src.view.WordExact} {hdst : dst.view.WordExact} (hN : dst.view.dmaCredit = N)
    {α : Type} {k : PUnit → Prog (TpuEff nD τ sig (Elt F) Λ₀ .tc) α} {Q : α → sProp 𝕄} :
    iprop(records m K ∗ cred (tallyAt (kcell (c, .inr κ)) () N) ∗ owing c O ∗ levAts L lv ∗ atPos EX (kcell (c, .inr κ)) 0 ∅ 0)
      ⊢ iprop((owing c O ∗ atPos EX (kcell (c, .inr κ)) 1 ∅ 0 ∗ P -∗ wpc c (k ⟨⟩) Q)
          -∗ wpc c (.op (.waitDma2 σ src dst hsrc hdst) k) Q) := by
  subst hκ hP
  have hg : ((c : Thread nD τ), SemLoc.dma σ) = kcell (c, .inr κ) := congrArg (Prod.mk (c : Thread nD τ)) hσ
  iintro ⟨#HR, Hc, ⟨%W, HO⟩, #Hlev, Hat⟩ Hk
  iapply (Rounds.wp_wait_rest_token 𝒱₀ EX (exRd m) (c : Thread nD τ) none (κ := K (c, .inr κ))
      (wpE_waitDma2_eq 𝒱₀ (c : Thread nD τ) none Set.univ) (Set.mem_univ _) () (O := O) (W := W) (R := 0) (m := 0) (T := ∅)
      (by rw [hg, expect_kcell, hN, Nat.zero_add]; exact (Nat.one_mul _).symm)) $$ [Hc HO Hat]
  · rw [hg, hN]
    isplitr; · iapply (inv_at m K c (.inr κ)); iexact HR
    isplitl [Hc]; · iexact Hc
    isplitl [HO]; · iexact HO
    isplitr
    · rw [hσ]; iapply (mayWait_kcell c (.inr κ) hO); iexact Hlev
    iexact Hat
  rw [hg]
  iintro ⟨HO, Hat, -, Hp⟩
  ihave Hp := (Entails.of_eq ((rest_kcell m c (.inr κ)).trans (rest_own m c κ))) $$ Hp
  iapply Hk
  isplitl [HO]; · iexists _; iexact HO
  isplitl [Hat]; · iexact Hat
  iexact Hp

/-- The same for a local copy's wait, a send's and a landing's, as the program spells them. -/
theorem wait_copy (c : Dev nD) (r : Fin 4) {σ : DmaSem sig} (hσ : SemLoc.dma σ = osem (.inl r)) {O : CellTallies nD τ sig Unit} (hO : Above (lvK (kC r) + 1) O)
    {sp : Space} {e : EltTy} {src : Memref sig .tc sp S1024x1024 e}
    {off : Fin 2 → ℕ} {hin : ∀ a, off a + S1024x1024.size a ≤ S4096x1024.size a}
    {hsrc : src.view.WordExact} {hdst : (cM.slice (Rect.unit (s := S4096x1024) off S1024x1024.size hin) (fun _ => rfl)).view.WordExact}
    {α : Type} {k : PUnit → Prog (TpuEff nD τ sig (Elt F) Λ₀ .tc) α} {Q : α → sProp 𝕄} :
    iprop(records m K ∗ cred (tallyAt (copyCell r c) () NC) ∗ owing c O ∗ levAts L lv ∗ atPos EX (copyCell r c) 0 ∅ 0)
      ⊢ iprop((owing c O ∗ atPos EX (copyCell r c) 1 ∅ 0
            ∗ held c (cRows (rot r c)) (rowsAt m c (rot r c)) ∗ held c (xRows (rot r c)) (rowsAt m c (rot r c)) -∗ wpc c (k ⟨⟩) Q)
          -∗ wpc c (.op (.waitDma2 σ src (cM.slice (Rect.unit (s := S4096x1024) off S1024x1024.size hin) (fun _ => rfl)) hsrc hdst) k) Q) := by
  have hN : (cM.slice (Rect.unit (s := S4096x1024) off S1024x1024.size hin) (fun _ => rfl)).view.dmaCredit = NC := by unfold NC; rfl
  exact wait_step m K c (.inl r) hσ hO (units_copy r) (pay_copy m c r 0) (src := src) (hsrc := hsrc) (hdst := hdst) hN

theorem wait_send (c : Dev nD) (j : Fin 3) {σ : DmaSem sig} (hσ : SemLoc.dma σ = osem (.inr (.inl j)))
    {sp : Space} {e : EltTy} {src : Memref sig .tc sp S1024x1024 e}
    {off : Fin 2 → ℕ} {hin : ∀ a, off a + S1024x1024.size a ≤ S4096x1024.size a}
    {hsrc : src.view.WordExact} {hdst : (sM.slice (Rect.unit (s := S4096x1024) off S1024x1024.size hin) (fun _ => rfl)).view.WordExact}
    {α : Type} {k : PUnit → Prog (TpuEff nD τ sig (Elt F) Λ₀ .tc) α} {Q : α → sProp 𝕄} :
    iprop(records m K ∗ cred (tallyAt (sendCell j c) () NX) ∗ owing c 0 ∗ levAts L lv ∗ atPos EX (sendCell j c) 0 ∅ 0)
      ⊢ iprop((owing c 0 ∗ atPos EX (sendCell j c) 1 ∅ 0 ∗ held c (sRows (fwd j c)) (chunk m c (fwd j c)) -∗ wpc c (k ⟨⟩) Q)
          -∗ wpc c (.op (.waitDma2 σ src (sM.slice (Rect.unit (s := S4096x1024) off S1024x1024.size hin) (fun _ => rfl)) hsrc hdst) k) Q) := by
  have hN : (sM.slice (Rect.unit (s := S4096x1024) off S1024x1024.size hin) (fun _ => rfl)).view.dmaCredit = NX := by unfold NX; rfl
  exact wait_step m K c (.inr (.inl j)) hσ (above_zero _) (units_send j) (pay_send m c j 0) (src := src) (hsrc := hsrc) (hdst := hdst) hN

theorem wait_recv (c : Dev nD) (j : Fin 3) {σ : DmaSem sig} (hσ : SemLoc.dma σ = osem (.inr (.inr j)))
    {sp : Space} {e : EltTy} {src : Memref sig .tc sp S1024x1024 e}
    {off : Fin 3 → ℕ} {hin : ∀ a, off a + S1x1024x1024.size a ≤ S3x1024x1024.size a}
    {hsrc : src.view.WordExact}
    {hdst : ((lM.slice (Rect.unit (s := S3x1024x1024) off S1x1024x1024.size hin) (fun _ => rfl)).squeeze S1024x1024 squeezes_S1x1024x1024_S1024x1024).view.WordExact}
    {α : Type} {k : PUnit → Prog (TpuEff nD τ sig (Elt F) Λ₀ .tc) α} {Q : α → sProp 𝕄} :
    iprop(records m K ∗ cred (tallyAt (recvCell j c) () NX) ∗ owing c 0 ∗ levAts L lv ∗ atPos EX (recvCell j c) 0 ∅ 0)
      ⊢ iprop((owing c 0 ∗ atPos EX (recvCell j c) 1 ∅ 0 ∗ held c (slot j) (chunk m (bwd j c) c) -∗ wpc c (k ⟨⟩) Q)
          -∗ wpc c (.op (.waitDma2 σ src
            ((lM.slice (Rect.unit (s := S3x1024x1024) off S1x1024x1024.size hin) (fun _ => rfl)).squeeze S1024x1024 squeezes_S1x1024x1024_S1024x1024) hsrc hdst) k) Q) := by
  have hN : ((lM.slice (Rect.unit (s := S3x1024x1024) off S1x1024x1024.size hin) (fun _ => rfl)).squeeze S1024x1024
      squeezes_S1x1024x1024_S1024x1024).view.dmaCredit = NX := by unfold NX; rfl
  exact wait_step m K c (.inr (.inr j)) hσ (above_zero _) (units_recv j) (pay_recv m c j 0) (src := src) (hsrc := hsrc) (hdst := hdst) hN

/-- The end of a part. -/
theorem done_step {c : Dev nD} {α : Type} (a : α) (Q : α → sProp 𝕄) : Q a ⊢ wpc c (.ret a) Q := le_wp_ret _ _ _ a Q

/-! ## Copies and sends -/

theorem mem_duties (c : Dev nD) (κ : OK) : (0 : Fin 3) ∈ (exRd (F := F) m).duties (kcell (c, .inr κ)) 0 := by
  rw [duties_kcell]; exact Finset.mem_singleton_self _

/-- Local copy `r`, of rows block `c + r` of `x` into the staging scratch: the credit comes at once, both blocks with the
    wait. -/
theorem copy_step (c : Dev nD) (r b : Fin 4) (hb : b = rot r c) {σ : DmaSem sig} (hσ : SemLoc.dma σ = osem (.inl r))
    {off : Fin 2 → ℕ} (hoff : off = ![1024 * b.val, 0]) {hin : ∀ a, off a + S1024x1024.size a ≤ S4096x1024.size a}
    {hsrc : (xM.slice (Rect.unit (s := S4096x1024) off S1024x1024.size hin) (fun _ => rfl)).view.WordExact}
    {hdst : (cM.slice (Rect.unit (s := S4096x1024) off S1024x1024.size hin) (fun _ => rfl)).view.WordExact}
    {hsem : DmaTarget.Typed (nD := nD) (τ := τ) (p := .tc) .hbm (.dma σ)
      (.here (cM.slice (Rect.unit (s := S4096x1024) off S1024x1024.size hin) (fun _ => rfl)))}
    {α : Type} {k : PUnit → Prog (TpuEff nD τ sig (Elt F) Λ₀ .tc) α} {Q : α → sProp 𝕄} :
    iprop(records m K ∗ held c (xRows b) (rowsAt m c b) ∗ someAt c (cRows b) ∗ dutyTok EX (copyCell r c) 0 0)
      ⊢ iprop((cred (tallyAt (copyCell r c) () NC) -∗ wpc c (k ⟨⟩) Q)
          -∗ wpc c (.op (.enqueueDma (xM.slice (Rect.unit (s := S4096x1024) off S1024x1024.size hin) (fun _ => rfl))
              (.here (cM.slice (Rect.unit (s := S4096x1024) off S1024x1024.size hin) (fun _ => rfl))) (.dma σ) hsrc hdst hsem) k) Q) := by
  subst hoff hb
  have hg : ((c : Thread nD τ), SemLoc.dma σ) = kcell (c, kC r) := congrArg (Prod.mk (c : Thread nD τ)) hσ
  iintro ⟨#HR, Hx, ⟨%X, Hc⟩, Ht⟩ Hk
  ihave Hx := (held_open _ _) $$ Hx
  icases Hx with ⟨%fs, %hfs, Hx⟩
  ihave Hc := (held_open _ _) $$ Hc
  icases Hc with ⟨%fd, %hfd, Hc⟩
  iapply (Rounds.wp_copy_pointsTo 𝒱₀ EX (exRd m) (c : Thread nD τ) none (κ := K (c, kC r)) (fs := fs) (fd := fd) (r := 0) (d := 0) (q := fullShare)
      (by rw [hg]; exact mem_duties m c (.inl r)) () NC (by exact credit_cRows (rot r c)) (by rw [hg]; exact amount_kcell m c (kC r) 0)
      (by
        rw [hg, payload_kcell, pay_copy]
        iintro ⟨H1, H2⟩
        isplitl [H1]
        · unfold held owns
          iexists _
          isplitr
          rotate_left
          · iexact H1
          · ipureintro
            rw [← hfs]
            exact View.read_write_univ fd _
        · unfold held owns
          iexists fs
          isplitr; · ipureintro; exact hfs
          iexact H2)) $$ [Hx Hc Ht]
  · rw [hg]
    isplitr; · iapply (inv_at m K c (kC r)); iexact HR
    isplitl [Hx]; · iexact Hx
    isplitl [Hc]; · iexact Hc
    isplitl [Ht]; · iexact Ht
    iapply (reached_at m K c (kC r)); iexact HR
  rw [hg]
  iexact Hk

/-- Send `j`: chunk `c + j + 1` of this device's block, into slot `j` of the device `j + 1` places after. It pays that
    landing, and the credit for its read-out comes at once. -/
theorem send_step (c n : Dev nD) (j : Fin 3) (hn : n = fwd j c) {σ σ' : DmaSem sig} (hσ : SemLoc.dma σ = osem (.inr (.inl j)))
    (hσ' : SemLoc.dma σ' = osem (.inr (.inr j))) {O₁ : CellTallies nD τ sig Unit} (O : CellTallies nD τ sig Unit)
    (hO : O₁ = O + tallyAt (recvCell j (fwd j c)) () NX)
    {off : Fin 2 → ℕ} (hoff : off = ![1024 * (fwd j c).val, 0]) {hin : ∀ a, off a + S1024x1024.size a ≤ S4096x1024.size a}
    {off3 : Fin 3 → ℕ} (hoff3 : off3 = ![j.val, 0, 0]) {hin3 : ∀ a, off3 a + S1x1024x1024.size a ≤ S3x1024x1024.size a}
    {hsrc : (sM.slice (Rect.unit (s := S4096x1024) off S1024x1024.size hin) (fun _ => rfl)).view.WordExact}
    {hdst : ((lM.slice (Rect.unit (s := S3x1024x1024) off3 S1x1024x1024.size hin3) (fun _ => rfl)).squeeze S1024x1024 squeezes_S1x1024x1024_S1024x1024).view.WordExact}
    {hsc : ((lM.slice (Rect.unit (s := S3x1024x1024) off3 S1x1024x1024.size hin3) (fun _ => rfl)).squeeze S1024x1024 squeezes_S1x1024x1024_S1024x1024 :
      Memref sig (Dev.tc n : Thread nD τ).2.kind .vmem S1024x1024 .fp8e4m3).view.ref.isScScratch = false}
    {hsem : DmaTarget.Typed .vmem (.dma σ') (.remote (Dev.tc n : Thread nD τ)
      ((lM.slice (Rect.unit (s := S3x1024x1024) off3 S1x1024x1024.size hin3) (fun _ => rfl)).squeeze S1024x1024 squeezes_S1x1024x1024_S1024x1024 :
        Memref sig (Dev.tc n : Thread nD τ).2.kind .vmem S1024x1024 .fp8e4m3) (.dma σ) hsc)}
    {α : Type} {k : PUnit → Prog (TpuEff nD τ sig (Elt F) Λ₀ .tc) α} {Q : α → sProp 𝕄} :
    iprop(records m K ∗ held c (sRows (fwd j c)) (chunk m c (fwd j c)) ∗ someAt (fwd j c) (slot j) ∗ owing c O₁
        ∗ dutyTok EX (sendCell j c) 0 0 ∗ dutyTok EX (recvCell j (fwd j c)) 0 0)
      ⊢ iprop((cred (tallyAt (sendCell j c) () NX) ∗ owing c O -∗ wpc c (k ⟨⟩) Q)
          -∗ wpc c (.op (.enqueueDma (sM.slice (Rect.unit (s := S4096x1024) off S1024x1024.size hin) (fun _ => rfl))
              (.remote (Dev.tc n : Thread nD τ)
                ((lM.slice (Rect.unit (s := S3x1024x1024) off3 S1x1024x1024.size hin3) (fun _ => rfl)).squeeze S1024x1024 squeezes_S1x1024x1024_S1024x1024) (.dma σ) hsc)
              (.dma σ') hsrc hdst hsem) k) Q) := by
  subst hoff hoff3 hn hO
  have hg : ((c : Thread nD τ), SemLoc.dma σ) = kcell (c, kS j) := congrArg (Prod.mk (c : Thread nD τ)) hσ
  have hg' : ((fwd j c : Thread nD τ), SemLoc.dma σ') = kcell (fwd j c, kR j) := congrArg (Prod.mk (fwd j c : Thread nD τ)) hσ'
  iintro ⟨#HR, Hx, ⟨%X, Hd⟩, ⟨%W, HO⟩, Ht, Ht'⟩ Hk
  ihave Hx := (held_open _ _) $$ Hx
  icases Hx with ⟨%fs, %hfs, Hx⟩
  ihave Hd := (held_open _ _) $$ Hd
  icases Hd with ⟨%fd, %hfd, Hd⟩
  iapply (Rounds.wp_send_pointsTo 𝒱₀ EX (exRd m) (c : Thread nD τ) none (c' := (fwd j c : Thread nD τ)) (κ₁ := K (c, kS j)) (κ₂ := K (fwd j c, kR j))
      (fs := fs) (fd := fd) (r₁ := 0) (r₂ := 0) (d₁ := 0) (d₂ := 0) (q := fullShare)
      (by rw [hg]; exact mem_duties m c (.inr (.inl j))) (by rw [hg']; exact mem_duties m (fwd j c) (.inr (.inr j)))
      () () NX (by exact credit_slot j) (by rw [hg]; exact amount_kcell m c (kS j) 0) (by rw [hg']; exact amount_kcell m (fwd j c) (kR j) 0)
      O (by rw [hg']) (W := W)
      (by
        rw [hg, payload_kcell, pay_send]
        unfold held owns
        iintro H
        iexists fs
        isplitr; · ipureintro; exact hfs
        iexact H)
      (by
        rw [hg', payload_kcell, pay_recv, bwd_fwd]
        unfold held owns
        iintro H
        iexists _
        isplitr
        rotate_left
        · iexact H
        · ipureintro
          rw [← hfs]
          exact View.read_write_univ fd _)) $$ [Hx Hd HO Ht Ht']
  · rw [hg, hg']
    isplitr; · iapply (inv_at m K c (kS j)); iexact HR
    isplitr; · iapply (inv_at m K (fwd j c) (kR j)); iexact HR
    isplitl [Hx]; · iexact Hx
    isplitl [Hd]; · iexact Hd
    isplitl [HO]; · iexact HO
    isplitl [Ht]; · iexact Ht
    isplitr; · iapply (reached_at m K c (kS j)); iexact HR
    isplitl [Ht']; · iexact Ht'
    iapply (reached_at m K (fwd j c) (kR j)); iexact HR
  rw [hg]
  iintro ⟨Hc, HO⟩
  iapply Hk
  isplitl [Hc]; · iexact Hc
  iexists W; iexact HO

/-! ## Reading a landed slot -/

/-- A load of a landing slot, unit axis and all: a vector that reshapes to the slot's contents. -/
theorem load_slot (c : Dev nD) (j : Fin 3) {off : Fin 3 → ℕ} (hoff : off = ![j.val, 0, 0])
    {hin : ∀ a, off a + S1x1024x1024.size a ≤ S3x1024x1024.size a}
    {hl : lM.view.LoadsAt (Rect.unit (s := S3x1024x1024) off S1x1024x1024.size hin).toLoadRect} {X : S1024x1024.Idx → Elt F .fp8e4m3}
    {α : Type} {k : (S1x1024x1024.Idx → Elt F .fp8e4m3) → Prog (TpuEff nD τ sig (Elt F) Λ₀ .tc) α} {Q : α → sProp 𝕄} :
    (held c (slot j) X : sProp 𝕄)
      ⊢ iprop((∀ Y, ⌜shapeCast S1024x1024 Y shapeCasts_S1x1024x1024_S1024x1024 = X⌝ -∗ held c (slot j) X -∗ wpc c (k Y) Q)
          -∗ wpc c (.op (.load lM (Rect.unit (s := S3x1024x1024) off S1x1024x1024.size hin).toLoadRect hl) k) Q) := by
  subst hoff
  iintro H Hk
  ihave H := (held_open _ _) $$ H
  icases H with ⟨%f, %hf, H⟩
  have hset : (slot j).view.set = (lM.access (slotRect j)).set := View.set_reshape (v := (slot3 j).view) _
  have hv : shapeCast S1024x1024 ((lM.access (slotRect j)).read (Elt F) f) shapeCasts_S1x1024x1024_S1024x1024 = X := by
    rw [← hf]; funext x; rfl
  iapply (wp_load_rect 𝒱₀ (c : Thread nD τ) none Set.univ (m := lM) (r := slotRect j)
    (S := (slot j).view.set) (by rw [hset])) $$ H
  iintro H
  iapply Hk
  · ipureintro; exact hv
  · unfold held owns
    iexists f
    isplitr; · ipureintro; exact hf
    iexact H

end Cert.Proof

end
-- ==== Proof.Parts.lean ====
/-
  The body's parts at the first grid point, one lemma each: from what the part uses to what it leaves. Blocks are named by
  the device they are for or come from: `c` itself, `fwd j c` for the chunks sent, `bwd j c` for the chunks received.
-/
module

public import Idealize.ShloMosaic.Lib.Pipeline.Value
public import proofs.«01_k».proof.Proof.Exchange

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The program's offsets -/

theorem rot_1 (c : Dev nD) : rot 1 c = fwd 0 c := rot_succ 0 c
theorem rot_2 (c : Dev nD) : rot 2 c = fwd 1 c := rot_succ 1 c
theorem rot_3 (c : Dev nD) : rot 3 c = fwd 2 c := rot_succ 2 c

theorem o1_0 (c : Dev nD) : k0_off1 c 0#32 = ![1024 * c.val, 0] := by
  have h := k0_off1_eq c 0
  have e : (c.val + (0 : Fin 4).val) % 4 = c.val := by revert c; decide
  rw [e] at h; exact h
theorem o1_1 (c : Dev nD) : k0_off1 c 1#32 = ![1024 * (fwd 0 c).val, 0] := k0_off1_eq c 1
theorem o1_2 (c : Dev nD) : k0_off1 c 2#32 = ![1024 * (fwd 1 c).val, 0] := k0_off1_eq c 2
theorem o1_3 (c : Dev nD) : k0_off1 c 3#32 = ![1024 * (fwd 2 c).val, 0] := k0_off1_eq c 3
theorem o2_0 (c : Dev nD) : k0_off2 c 1#32 = ![1024 * (fwd 0 c).val, 0] := k0_off2_eq c 0
theorem o2_1 (c : Dev nD) : k0_off2 c 2#32 = ![1024 * (fwd 1 c).val, 0] := k0_off2_eq c 1
theorem o2_2 (c : Dev nD) : k0_off2 c 3#32 = ![1024 * (fwd 2 c).val, 0] := k0_off2_eq c 2
theorem bwd_val (j : Fin 3) (c : Dev nD) : ((c.val + 3) - j.val) % 4 = (bwd j c).val := by revert j c; decide
theorem o6_0 (c : Dev nD) : k0_off6 c 1#32 = ![0, 1024 * (bwd 0 c).val] := by rw [← bwd_val]; exact k0_off6_eq c 0
theorem o6_1 (c : Dev nD) : k0_off6 c 2#32 = ![0, 1024 * (bwd 1 c).val] := by rw [← bwd_val]; exact k0_off6_eq c 1
theorem o6_2 (c : Dev nD) : k0_off6 c 3#32 = ![0, 1024 * (bwd 2 c).val] := by rw [← bwd_val]; exact k0_off6_eq c 2
theorem o7_0 (c : Dev nD) : k0_off7 c 1#32 = ![1024 * (bwd 0 c).val, 0] := by rw [← bwd_val]; exact k0_off7_eq c 0
theorem o7_1 (c : Dev nD) : k0_off7 c 2#32 = ![1024 * (bwd 1 c).val, 0] := by rw [← bwd_val]; exact k0_off7_eq c 1
theorem o7_2 (c : Dev nD) : k0_off7 c 3#32 = ![1024 * (bwd 2 c).val, 0] := by rw [← bwd_val]; exact k0_off7_eq c 2

/-! ## The first point's result -/

/-- Rows block `b` of a 4096×512 block of `w`. -/
abbrev wRows (W : S4096x512.Idx → Elt F .f32) (b : Fin 4) : S1024x512.Idx → Elt F .f32 := fun i => W ((wRect b).emb i)

/-- The running sum of the partial products, one chunk at a time: the device's own, then as they arrive. -/
abbrev acc1 (c : Dev nD) (W : S4096x512.Idx → Elt F .f32) : S1024x512.Idx → Elt F .f32 := k0_pay10 (wRows W c) (chunk m c c)
abbrev acc2 (c : Dev nD) (W : S4096x512.Idx → Elt F .f32) : S1024x512.Idx → Elt F .f32 :=
  k0_pay12 (wRows W (bwd 0 c)) (acc1 m c W) (chunk m (bwd 0 c) c)
abbrev acc3 (c : Dev nD) (W : S4096x512.Idx → Elt F .f32) : S1024x512.Idx → Elt F .f32 :=
  k0_pay16 (k0_pay14 (wRows W (bwd 1 c))) (k0_pay15 (acc2 m c W)) (chunk m (bwd 1 c) c)
abbrev acc4 (c : Dev nD) (W : S4096x512.Idx → Elt F .f32) : S1024x512.Idx → Elt F .f32 :=
  k0_pay3 (wRows W (bwd 2 c)) (acc3 m c W) (chunk m (bwd 2 c) c)

/-- The gathering scratch as the chunks are laid into it. -/
abbrev lay1 (c : Dev nD) (X : S1024x4096.Idx → Elt F .fp8e4m3) : S1024x4096.Idx → Elt F .fp8e4m3 := (colRect c).overlay X (chunk m c c)
abbrev lay2 (c : Dev nD) (X : S1024x4096.Idx → Elt F .fp8e4m3) : S1024x4096.Idx → Elt F .fp8e4m3 :=
  (colRect (bwd 0 c)).overlay (lay1 m c X) (chunk m (bwd 0 c) c)
abbrev lay3 (c : Dev nD) (X : S1024x4096.Idx → Elt F .fp8e4m3) : S1024x4096.Idx → Elt F .fp8e4m3 :=
  (colRect (bwd 1 c)).overlay (lay2 m c X) (chunk m (bwd 1 c) c)
abbrev lay4 (c : Dev nD) (X : S1024x4096.Idx → Elt F .fp8e4m3) : S1024x4096.Idx → Elt F .fp8e4m3 :=
  (colRect (bwd 2 c)).overlay (lay3 m c X) (chunk m (bwd 2 c) c)

/-- A landed slot's vector, its unit axis dropped. -/
theorem pay11_eq (Y : S1x1024x1024.Idx → Elt F .fp8e4m3) :
    k0_pay11 (F := F) Y = shapeCast S1024x1024 Y shapeCasts_S1x1024x1024_S1024x1024 := shapeCast_self _ _
theorem pay13_eq (Y : S1x1024x1024.Idx → Elt F .fp8e4m3) :
    k0_pay13 (F := F) Y = shapeCast S1024x1024 Y shapeCasts_S1x1024x1024_S1024x1024 := shapeCast_self _ _
theorem pay2_eq (Y : S1x1024x1024.Idx → Elt F .fp8e4m3) :
    k0_pay2 (F := F) (k0_pay17 Y) = shapeCast S1024x1024 Y shapeCasts_S1x1024x1024_S1024x1024 := shapeCast_self _ _

/-- `store_at`, the stored vector known by another name. -/
theorem store_as {c : Dev nD} {s : Shape} {e : EltTy} {α : Type} (M : Memref sig .tc .vmem s e) {off : Fin s.rank → ℕ} (off' : Fin s.rank → ℕ) {size : Fin s.rank → ℕ}
    {hin : ∀ a, off a + size a ≤ s.size a} (h : off = off') (hin' : ∀ a, off' a + size a ≤ s.size a)
    {w : (Rect.unit off' size hin').shape.Idx → Elt F e} (w' : (Rect.unit off' size hin').shape.Idx → Elt F e) (hw : w = w')
    {hx : (M.access (Rect.unit off size hin)).Stores Finset.univ}
    {hm : (Finset.univ : Finset (Rect.unit off size hin).shape.Idx) = Finset.univ ∨ ∀ a, (Rect.unit off size hin).stride a = 1}
    {X : s.Idx → Elt F e} {k : PUnit → Prog (TpuEff nD τ sig (Elt F) Λ₀ .tc) α}
    {Q : α → sProp 𝕄} :
    (held c M X : sProp 𝕄)
      ⊢ iprop((held c M ((Rect.unit off' size hin').overlay X w') -∗ wpc c (k ⟨⟩) Q)
          -∗ wpc c (.op (.store M (Rect.unit off size hin) w Finset.univ hx hm) k) Q) := by
  subst hw; exact store_at M off' h hin'

/-! ## The parts -/

variable (K : Dev nD × CK → ℕ)

section Parts

variable {c : Dev nD} {i : grid0.Coords} {hx : xM.IsWhole} {a2 : Memref sig .tc .vmem S4096x512 .f32} {h2 : a2.IsWhole}
  {a3 : Memref sig .tc .smem S1 .f32} {h3 : a3.IsWhole} {a4 : Memref sig .tc .smem S1 .f32} {h4 : a4.IsWhole}
  {a5 : Memref sig .tc .vmem S1024x512 .f32} {h5 : a5.IsWhole} {hc : cM.IsWhole} {hs : sM.IsWhole} {hg : gM.IsWhole} {hl : lM.IsWhole}
  {v2 : BitVec 32} {h1 : k0_cond1 i = 1#1}

/-- The three signals: each hands over one landing slot. -/
theorem part1 {Q : Sems sig S_ → sProp 𝕄} :
    iprop(records m K ∗ owing c (O₀ c)
        ∗ (dutyTok EX (barCell (fwd 0 c)) 0 0 ∗ dutyTok EX (barCell (fwd 1 c)) 0 1 ∗ dutyTok EX (barCell (fwd 2 c)) 0 2)
        ∗ someAt c (slot 0) ∗ someAt c (slot 1) ∗ someAt c (slot 2))
      ⊢ iprop((owing c (owe0 c) -∗ Q (SemArray.scalar (sig.barrier 0 rfl)))
          -∗ wpc c (k0_part1 i xM hx a2 h2 a3 h3 a4 h4 a5 h5 cM hc sM hs gM hg lM hl cc0_scratch4 cc0_scratch5 cc0_scratch6 c v2 h1) Q) := by
  rw [k0_part1_eq_skeleton]; unfold k0_part1_skel
  simp only [semSignalWord, Prog.lift, Prog.bind_op, Prog.bind_ret, Prog.pure_eq_ret]
  iintro ⟨#HR, HO, ⟨Ht0, Ht1, Ht2⟩, H0, H1, H2⟩ Hk
  iapply (signal_step m K c _ 0 (Fin.ext (k0_dev1_eq c)) (oweB1 c) rfl) $$ [HO Ht0 H2]
  · isplitr; · iexact HR
    isplitl [HO]; · iexact HO
    isplitl [Ht0]; · iexact Ht0
    iexact H2
  iintro HO
  iapply (signal_step m K c _ 1 (Fin.ext (k0_dev2_eq c)) (oweB2 c) rfl) $$ [HO Ht1 H1]
  · isplitr; · iexact HR
    isplitl [HO]; · iexact HO
    isplitl [Ht1]; · iexact Ht1
    iexact H1
  iintro HO
  iapply (signal_step m K c _ 2 (Fin.ext (k0_dev3_eq c)) (owe0 c) rfl) $$ [HO Ht2 H0]
  · isplitr; · iexact HR
    isplitl [HO]; · iexact HO
    isplitl [Ht2]; · iexact Ht2
    iexact H0
  iintro HO
  iapply (done_step _ _)
  iapply Hk; iexact HO

/-- The four local copies, the barrier, and the first chunk made. -/
theorem part2 {v12 : Sems sig S_} (hv : v12 = SemArray.scalar (sig.barrier 0 rfl)) {Q : BitVec 32 → sProp 𝕄} :
    iprop(records m K ∗ levAts L lv ∗ owing c (owe0 c)
        ∗ (held c (xRows c) (rowsAt m c c) ∗ held c (xRows (fwd 0 c)) (rowsAt m c (fwd 0 c))
            ∗ held c (xRows (fwd 1 c)) (rowsAt m c (fwd 1 c)) ∗ held c (xRows (fwd 2 c)) (rowsAt m c (fwd 2 c)))
        ∗ (someAt c (cRows c) ∗ someAt c (cRows (fwd 0 c)) ∗ someAt c (cRows (fwd 1 c)) ∗ someAt c (cRows (fwd 2 c)))
        ∗ (dutyTok EX (copyCell 0 c) 0 0 ∗ dutyTok EX (copyCell 1 c) 0 0 ∗ dutyTok EX (copyCell 2 c) 0 0 ∗ dutyTok EX (copyCell 3 c) 0 0)
        ∗ cred (tallyAt (barCell c) () 3) ∗ atPos EX (barCell c) 0 ∅ 0 ∗ atPos EX (copyCell 1 c) 0 ∅ 0
        ∗ someAt c (sRows (fwd 0 c)))
      ⊢ iprop((∀ v, owing c (owe0 c) ∗ atPos EX (barCell c) 1 ∅ 0 ∗ atPos EX (copyCell 1 c) 1 ∅ 0
            ∗ (someAt (fwd 0 c) (slot 0) ∗ someAt (fwd 1 c) (slot 1) ∗ someAt (fwd 2 c) (slot 2))
            ∗ (cred (tallyAt (copyCell 0 c) () NC) ∗ cred (tallyAt (copyCell 2 c) () NC) ∗ cred (tallyAt (copyCell 3 c) () NC))
            ∗ held c (cRows (fwd 0 c)) (rowsAt m c (fwd 0 c)) ∗ held c (xRows (fwd 0 c)) (rowsAt m c (fwd 0 c))
            ∗ held c (sRows (fwd 0 c)) (chunk m c (fwd 0 c)) -∗ Q v)
          -∗ wpc c (k0_part2 i xM hx a2 h2 a3 h3 a4 h4 a5 h5 cM hc sM hs gM hg lM hl cc0_scratch4 cc0_scratch5 cc0_scratch6 c v2 h1 v12) Q) := by
  subst hv
  rw [k0_part2_eq_skeleton]; unfold k0_part2_skel
  simp only [semWaitWord, Prog.lift, Prog.bind_op, Prog.bind_ret, Prog.pure_eq_ret]
  iintro ⟨#HR, #Hlev, HO, ⟨Hx0, Hx1, Hx2, Hx3⟩, ⟨Hc0, Hc1, Hc2, Hc3⟩, ⟨Ht0, Ht1, Ht2, Ht3⟩, HcB, HpB, Hp1, ⟨%S0, Hs0⟩⟩ Hk
  iapply (copy_step m K c 0 c (rot_zero c).symm rfl (o1_0 c)) $$ [Hx0 Hc0 Ht0]
  · isplitr; · iexact HR
    isplitl [Hx0]; · iexact Hx0
    isplitl [Hc0]; · iexact Hc0
    iexact Ht0
  iintro Hd0
  iapply (copy_step m K c 1 (fwd 0 c) (rot_1 c).symm rfl (o1_1 c)) $$ [Hx1 Hc1 Ht1]
  · isplitr; · iexact HR
    isplitl [Hx1]; · iexact Hx1
    isplitl [Hc1]; · iexact Hc1
    iexact Ht1
  iintro Hd1
  iapply (copy_step m K c 2 (fwd 1 c) (rot_2 c).symm rfl (o1_2 c)) $$ [Hx2 Hc2 Ht2]
  · isplitr; · iexact HR
    isplitl [Hx2]; · iexact Hx2
    isplitl [Hc2]; · iexact Hc2
    iexact Ht2
  iintro Hd2
  iapply (copy_step m K c 3 (fwd 2 c) (rot_3 c).symm rfl (o1_3 c)) $$ [Hx3 Hc3 Ht3]
  · isplitr; · iexact HR
    isplitl [Hx3]; · iexact Hx3
    isplitl [Hc3]; · iexact Hc3
    iexact Ht3
  iintro Hd3
  iapply (barrier_step m K c) $$ [HcB HO HpB]
  · isplitr; · iexact HR
    isplitl [HcB]; · iexact HcB
    isplitl [HO]; · iexact HO
    isplitr; · iexact Hlev
    iexact HpB
  iintro ⟨HO, HpB, Hl0, Hl1, Hl2⟩
  iapply (wait_copy m K c 1 rfl (above_mono (by decide) (above_owe0 c))) $$ [Hd1 HO Hp1]
  · isplitr; · iexact HR
    isplitl [Hd1]; · iexact Hd1
    isplitl [HO]; · iexact HO
    isplitr; · iexact Hlev
    iexact Hp1
  rw [rot_1]
  iintro ⟨HO, Hp1, Hc1, Hx1⟩
  iapply (load_part cM _ (o2_0 c) (rowRect_inb (fwd 0 c))) $$ Hc1
  iintro Hc1
  iapply (load_part sM _ (o2_0 c) (rowRect_inb (fwd 0 c))) $$ Hs0
  iintro Hs0
  iapply (store_part sM _ (o2_0 c) (rowRect_inb (fwd 0 c))) $$ Hs0
  iintro Hs0
  iapply (done_step _ _)
  iapply Hk
  isplitl [HO]; · iexact HO
  isplitl [HpB]; · iexact HpB
  isplitl [Hp1]; · iexact Hp1
  isplitl [Hl0 Hl1 Hl2]
  · isplitl [Hl0]; · iexact Hl0
    isplitl [Hl1]; · iexact Hl1
    iexact Hl2
  isplitl [Hd0 Hd2 Hd3]
  · isplitl [Hd0]; · iexact Hd0
    isplitl [Hd2]; · iexact Hd2
    iexact Hd3
  isplitl [Hc1]; · iexact Hc1
  isplitl [Hx1]; · iexact Hx1
  iexact Hs0

/-- The first send, the second copy's wait and the second chunk made. -/
theorem part3 {v68 : BitVec 32} {Q : PUnit → sProp 𝕄} :
    iprop(records m K ∗ levAts L lv ∗ owing c (owe0 c)
        ∗ held c (sRows (fwd 0 c)) (chunk m c (fwd 0 c)) ∗ someAt (fwd 0 c) (slot 0)
        ∗ dutyTok EX (sendCell 0 c) 0 0 ∗ dutyTok EX (recvCell 0 (fwd 0 c)) 0 0
        ∗ cred (tallyAt (copyCell 2 c) () NC) ∗ atPos EX (copyCell 2 c) 0 ∅ 0 ∗ someAt c (sRows (fwd 1 c)))
      ⊢ iprop((owing c (owe1 c) ∗ cred (tallyAt (sendCell 0 c) () NX) ∗ atPos EX (copyCell 2 c) 1 ∅ 0
            ∗ held c (cRows (fwd 1 c)) (rowsAt m c (fwd 1 c)) ∗ held c (xRows (fwd 1 c)) (rowsAt m c (fwd 1 c))
            ∗ held c (sRows (fwd 1 c)) (chunk m c (fwd 1 c)) -∗ Q ⟨⟩)
          -∗ wpc c (k0_part3 i xM hx a2 h2 a3 h3 a4 h4 a5 h5 cM hc sM hs gM hg lM hl cc0_scratch4 cc0_scratch5 cc0_scratch6 c v2 h1 v68) Q) := by
  rw [k0_part3_eq_skeleton]; unfold k0_part3_skel
  simp only [Prog.lift, Prog.bind_op, Prog.bind_ret, Prog.pure_eq_ret]
  iintro ⟨#HR, #Hlev, HO, Hs0, Hl0, Ht0, Hu0, He, Hp, ⟨%S1, HS⟩⟩ Hk
  iapply (send_step m K c _ 0 (Fin.ext (k0_dev4_eq c)) rfl rfl (owe1 c) (by rfl) (o1_1 c) rfl) $$ [Hs0 Hl0 HO Ht0 Hu0]
  · isplitr; · iexact HR
    isplitl [Hs0]; · iexact Hs0
    isplitl [Hl0]; · iexact Hl0
    isplitl [HO]; · iexact HO
    isplitl [Ht0]; · iexact Ht0
    iexact Hu0
  iintro ⟨Hd0, HO⟩
  iapply (wait_copy m K c 2 rfl (above_mono (by decide) (above_owe1 c))) $$ [He HO Hp]
  · isplitr; · iexact HR
    isplitl [He]; · iexact He
    isplitl [HO]; · iexact HO
    isplitr; · iexact Hlev
    iexact Hp
  rw [rot_2]
  iintro ⟨HO, Hp, Hc, Hx⟩
  iapply (load_part cM _ (o2_1 c) (rowRect_inb (fwd 1 c))) $$ Hc
  iintro Hc
  iapply (load_part sM _ (o2_1 c) (rowRect_inb (fwd 1 c))) $$ HS
  iintro HS
  iapply (store_part sM _ (o2_1 c) (rowRect_inb (fwd 1 c))) $$ HS
  iintro HS
  iapply (done_step _ _)
  iapply Hk
  isplitl [HO]; · iexact HO
  isplitl [Hd0]; · iexact Hd0
  isplitl [Hp]; · iexact Hp
  isplitl [Hc]; · iexact Hc
  isplitl [Hx]; · iexact Hx
  iexact HS

/-- The second send, the third copy's wait, the third chunk made and sent. -/
theorem part4 {Q : PUnit → sProp 𝕄} :
    iprop(records m K ∗ levAts L lv ∗ owing c (owe1 c)
        ∗ held c (sRows (fwd 1 c)) (chunk m c (fwd 1 c)) ∗ someAt (fwd 1 c) (slot 1)
        ∗ dutyTok EX (sendCell 1 c) 0 0 ∗ dutyTok EX (recvCell 1 (fwd 1 c)) 0 0
        ∗ cred (tallyAt (copyCell 3 c) () NC) ∗ atPos EX (copyCell 3 c) 0 ∅ 0 ∗ someAt c (sRows (fwd 2 c))
        ∗ someAt (fwd 2 c) (slot 2) ∗ dutyTok EX (sendCell 2 c) 0 0 ∗ dutyTok EX (recvCell 2 (fwd 2 c)) 0 0)
      ⊢ iprop((owing c 0 ∗ cred (tallyAt (sendCell 1 c) () NX) ∗ cred (tallyAt (sendCell 2 c) () NX) ∗ atPos EX (copyCell 3 c) 1 ∅ 0
            ∗ held c (cRows (fwd 2 c)) (rowsAt m c (fwd 2 c)) ∗ held c (xRows (fwd 2 c)) (rowsAt m c (fwd 2 c)) -∗ Q ⟨⟩)
          -∗ wpc c (k0_part4 i xM hx a2 h2 a3 h3 a4 h4 a5 h5 cM hc sM hs gM hg lM hl cc0_scratch4 cc0_scratch5 cc0_scratch6 c v2 h1) Q) := by
  rw [k0_part4_eq_skeleton]; unfold k0_part4_skel
  simp only [Prog.lift, Prog.bind_op, Prog.bind_ret, Prog.pure_eq_ret]
  iintro ⟨#HR, #Hlev, HO, Hs1, Hl1, Ht1, Hu1, He, Hp, ⟨%S2, HS⟩, Hl2, Ht2, Hu2⟩ Hk
  iapply (send_step m K c _ 1 (Fin.ext (k0_dev5_eq c)) rfl rfl (owe2 c) (by rfl) (o1_2 c) rfl) $$ [Hs1 Hl1 HO Ht1 Hu1]
  · isplitr; · iexact HR
    isplitl [Hs1]; · iexact Hs1
    isplitl [Hl1]; · iexact Hl1
    isplitl [HO]; · iexact HO
    isplitl [Ht1]; · iexact Ht1
    iexact Hu1
  iintro ⟨Hd1, HO⟩
  iapply (wait_copy m K c 3 rfl (above_mono (by decide) (above_owe2 c))) $$ [He HO Hp]
  · isplitr; · iexact HR
    isplitl [He]; · iexact He
    isplitl [HO]; · iexact HO
    isplitr; · iexact Hlev
    iexact Hp
  rw [rot_3]
  iintro ⟨HO, Hp, Hc, Hx⟩
  iapply (load_part cM _ (o2_2 c) (rowRect_inb (fwd 2 c))) $$ Hc
  iintro Hc
  iapply (load_part sM _ (o2_2 c) (rowRect_inb (fwd 2 c))) $$ HS
  iintro HS
  iapply (store_part sM _ (o2_2 c) (rowRect_inb (fwd 2 c))) $$ HS
  iintro HS
  iapply (send_step m K c _ 2 (Fin.ext (k0_dev6_eq c)) rfl rfl (0) (by rfl) (o1_3 c) rfl) $$ [HS Hl2 HO Ht2 Hu2]
  · isplitr; · iexact HR
    isplitl [HS]; · iexact HS
    isplitl [Hl2]; · iexact Hl2
    isplitl [HO]; · iexact HO
    isplitl [Ht2]; · iexact Ht2
    iexact Hu2
  iintro ⟨Hd2, HO⟩
  iapply (done_step _ _)
  iapply Hk
  isplitl [HO]; · iexact HO
  isplitl [Hd1]; · iexact Hd1
  isplitl [Hd2]; · iexact Hd2
  isplitl [Hp]; · iexact Hp
  isplitl [Hc]; · iexact Hc
  iexact Hx

/-- The device's own chunk gathered and multiplied, and the first send's wait. -/
theorem part5 {X : S1024x4096.Idx → Elt F .fp8e4m3} {W : S4096x512.Idx → Elt F .f32} {Y : S1024x512.Idx → Elt F .f32} {Q : PUnit → sProp 𝕄} :
    iprop(records m K ∗ levAts L lv ∗ owing c 0 ∗ cred (tallyAt (copyCell 0 c) () NC) ∗ atPos EX (copyCell 0 c) 0 ∅ 0
        ∗ held c gM X ∗ held c a2 W ∗ held c a5 Y ∗ cred (tallyAt (sendCell 0 c) () NX) ∗ atPos EX (sendCell 0 c) 0 ∅ 0)
      ⊢ iprop((owing c 0 ∗ atPos EX (copyCell 0 c) 1 ∅ 0 ∗ atPos EX (sendCell 0 c) 1 ∅ 0
            ∗ held c (cRows c) (rowsAt m c c) ∗ held c (xRows c) (rowsAt m c c)
            ∗ held c gM (lay1 m c X) ∗ held c a2 W ∗ held c a5 (acc1 m c W)
            ∗ held c (sRows (fwd 0 c)) (chunk m c (fwd 0 c)) -∗ Q ⟨⟩)
          -∗ wpc c (k0_part5 i xM hx a2 h2 a3 h3 a4 h4 a5 h5 cM hc sM hs gM hg lM hl cc0_scratch4 cc0_scratch5 cc0_scratch6 c v2 h1) Q) := by
  rw [k0_part5_eq_skeleton]; unfold k0_part5_skel
  simp only [Prog.lift, Prog.bind_op, Prog.bind_ret, Prog.pure_eq_ret]
  iintro ⟨#HR, #Hlev, HO, He, Hp, Hg, Hw, Ho, Hd, Hq⟩ Hk
  iapply (wait_copy m K c 0 rfl (above_zero _)) $$ [He HO Hp]
  · isplitr; · iexact HR
    isplitl [He]; · iexact He
    isplitl [HO]; · iexact HO
    isplitr; · iexact Hlev
    iexact Hp
  rw [rot_zero]
  iintro ⟨HO, Hp, Hc, Hx⟩
  iapply (load_part cM _ (k0_off3_eq c) (rowRect_inb c)) $$ Hc
  iintro Hc
  iapply (load_at gM _ (k0_off4_eq c) (colRect_inb c)) $$ Hg
  iintro Hg
  iapply (store_as gM _ (k0_off4_eq c) (colRect_inb c) (chunk m c c) rfl) $$ Hg
  iintro Hg
  iapply (load_at a2 _ (k0_off5_eq c) (wRect_inb c)) $$ Hw
  iintro Hw
  iapply (load_over gM _ (k0_off4_eq c) (colRect_inb c)) $$ Hg
  iintro Hg
  iapply (load_whole a5 off_zero) $$ Ho
  iintro Ho
  iapply (store_whole a5 off_zero) $$ Ho
  iintro Ho
  iapply (wait_send m K c 0 rfl) $$ [Hd HO Hq]
  · isplitr; · iexact HR
    isplitl [Hd]; · iexact Hd
    isplitl [HO]; · iexact HO
    isplitr; · iexact Hlev
    iexact Hq
  iintro ⟨HO, Hq, HS⟩
  iapply (done_step _ _)
  iapply Hk
  isplitl [HO]; · iexact HO
  isplitl [Hp]; · iexact Hp
  isplitl [Hq]; · iexact Hq
  isplitl [Hc]; · iexact Hc
  isplitl [Hx]; · iexact Hx
  isplitl [Hg]; · iexact Hg
  isplitl [Hw]; · iexact Hw
  isplitl [Ho]; · iexact Ho
  iexact HS

/-- The first chunk received: gathered, multiplied and added. -/
theorem part6 {X : S1024x4096.Idx → Elt F .fp8e4m3} {W : S4096x512.Idx → Elt F .f32} {Q : BitVec 32 → sProp 𝕄} :
    iprop(records m K ∗ levAts L lv ∗ owing c 0 ∗ cred (tallyAt (recvCell 0 c) () NX) ∗ atPos EX (recvCell 0 c) 0 ∅ 0
        ∗ held c gM (lay1 m c X) ∗ held c a2 W ∗ held c a5 (acc1 m c W))
      ⊢ iprop((∀ v, owing c 0 ∗ atPos EX (recvCell 0 c) 1 ∅ 0 ∗ held c (slot 0) (chunk m (bwd 0 c) c)
            ∗ held c gM (lay2 m c X) ∗ held c a2 W ∗ held c a5 (acc2 m c W) -∗ Q v)
          -∗ wpc c (k0_part6 i xM hx a2 h2 a3 h3 a4 h4 a5 h5 cM hc sM hs gM hg lM hl cc0_scratch4 cc0_scratch5 cc0_scratch6 c v2 h1) Q) := by
  rw [k0_part6_eq_skeleton]; unfold k0_part6_skel
  simp only [Prog.lift, Prog.bind_op, Prog.bind_ret, Prog.pure_eq_ret]
  iintro ⟨#HR, #Hlev, HO, Hd, Hp, Hg, Hw, Ho⟩ Hk
  iapply (wait_recv m K c 0 rfl) $$ [Hd HO Hp]
  · isplitr; · iexact HR
    isplitl [Hd]; · iexact Hd
    isplitl [HO]; · iexact HO
    isplitr; · iexact Hlev
    iexact Hp
  iintro ⟨HO, Hp, Hl⟩
  iapply (load_slot c 0 rfl) $$ Hl
  iintro %Y %hY Hl
  iapply (load_at gM _ (o6_0 c) (colRect_inb (bwd 0 c))) $$ Hg
  iintro Hg
  iapply (store_as gM _ (o6_0 c) (colRect_inb (bwd 0 c)) (chunk m (bwd 0 c) c) ((pay11_eq Y).trans hY)) $$ Hg
  iintro Hg
  iapply (load_at a2 _ (o7_0 c) (wRect_inb (bwd 0 c))) $$ Hw
  iintro Hw
  iapply (load_whole a5 off_zero) $$ Ho
  iintro Ho
  iapply (load_over gM _ (o6_0 c) (colRect_inb (bwd 0 c))) $$ Hg
  iintro Hg
  iapply (load_whole a5 off_zero) $$ Ho
  iintro Ho
  iapply (store_whole a5 off_zero) $$ Ho
  iintro Ho
  iapply (done_step _ _)
  iapply Hk
  isplitl [HO]; · iexact HO
  isplitl [Hp]; · iexact Hp
  isplitl [Hl]; · iexact Hl
  isplitl [Hg]; · iexact Hg
  isplitl [Hw]; · iexact Hw
  iexact Ho

/-- The second send's wait, and the second chunk received and gathered. -/
theorem part7 {v193 : BitVec 32} {X : S1024x4096.Idx → Elt F .fp8e4m3} {W : S4096x512.Idx → Elt F .f32}
    {Q : (Σ' (_ : FVec F S1024x512 .fp8e4m3), FVec F S1024x512 .f32) → sProp 𝕄} :
    iprop(records m K ∗ levAts L lv ∗ owing c 0 ∗ cred (tallyAt (sendCell 1 c) () NX) ∗ atPos EX (sendCell 1 c) 0 ∅ 0
        ∗ cred (tallyAt (recvCell 1 c) () NX) ∗ atPos EX (recvCell 1 c) 0 ∅ 0
        ∗ held c gM (lay2 m c X) ∗ held c a2 W ∗ held c a5 (acc2 m c W))
      ⊢ iprop((owing c 0 ∗ atPos EX (sendCell 1 c) 1 ∅ 0 ∗ held c (sRows (fwd 1 c)) (chunk m c (fwd 1 c))
            ∗ atPos EX (recvCell 1 c) 1 ∅ 0 ∗ held c (slot 1) (chunk m (bwd 1 c) c)
            ∗ held c gM (lay3 m c X) ∗ held c a2 W ∗ held c a5 (acc2 m c W)
            -∗ Q ⟨k0_pay14 (wRows W (bwd 1 c)), k0_pay15 (acc2 m c W)⟩)
          -∗ wpc c (k0_part7 i xM hx a2 h2 a3 h3 a4 h4 a5 h5 cM hc sM hs gM hg lM hl cc0_scratch4 cc0_scratch5 cc0_scratch6 c v2 h1 v193) Q) := by
  rw [k0_part7_eq_skeleton]; unfold k0_part7_skel
  simp only [Prog.lift, Prog.bind_op, Prog.bind_ret, Prog.pure_eq_ret]
  iintro ⟨#HR, #Hlev, HO, He, Hq, Hd, Hp, Hg, Hw, Ho⟩ Hk
  iapply (wait_send m K c 1 rfl) $$ [He HO Hq]
  · isplitr; · iexact HR
    isplitl [He]; · iexact He
    isplitl [HO]; · iexact HO
    isplitr; · iexact Hlev
    iexact Hq
  iintro ⟨HO, Hq, HS⟩
  iapply (wait_recv m K c 1 rfl) $$ [Hd HO Hp]
  · isplitr; · iexact HR
    isplitl [Hd]; · iexact Hd
    isplitl [HO]; · iexact HO
    isplitr; · iexact Hlev
    iexact Hp
  iintro ⟨HO, Hp, Hl⟩
  iapply (load_slot c 1 rfl) $$ Hl
  iintro %Y %hY Hl
  iapply (load_at gM _ (o6_1 c) (colRect_inb (bwd 1 c))) $$ Hg
  iintro Hg
  iapply (store_as gM _ (o6_1 c) (colRect_inb (bwd 1 c)) (chunk m (bwd 1 c) c) ((pay13_eq Y).trans hY)) $$ Hg
  iintro Hg
  iapply (load_at a2 _ (o7_1 c) (wRect_inb (bwd 1 c))) $$ Hw
  iintro Hw
  iapply (load_whole a5 off_zero) $$ Ho
  iintro Ho
  iapply (done_step (⟨k0_pay14 (wRows W (bwd 1 c)), k0_pay15 (acc2 m c W)⟩ : Σ' (_ : FVec F S1024x512 .fp8e4m3), FVec F S1024x512 .f32) _)
  iapply Hk
  isplitl [HO]; · iexact HO
  isplitl [Hq]; · iexact Hq
  isplitl [HS]; · iexact HS
  isplitl [Hp]; · iexact Hp
  isplitl [Hl]; · iexact Hl
  isplitl [Hg]; · iexact Hg
  isplitl [Hw]; · iexact Hw
  iexact Ho

/-- The second chunk multiplied and added, the third send's wait, and the third chunk received. -/
theorem part8 {X : S1024x4096.Idx → Elt F .fp8e4m3} {W : S4096x512.Idx → Elt F .f32}
    {Q : (Σ' (_ : BitVec 32), FVec F S1024x1024 .fp8e4m3) → sProp 𝕄} :
    iprop(records m K ∗ levAts L lv ∗ owing c 0 ∗ cred (tallyAt (sendCell 2 c) () NX) ∗ atPos EX (sendCell 2 c) 0 ∅ 0
        ∗ cred (tallyAt (recvCell 2 c) () NX) ∗ atPos EX (recvCell 2 c) 0 ∅ 0
        ∗ held c gM (lay3 m c X) ∗ held c a5 (acc2 m c W))
      ⊢ iprop((∀ v, ∀ A, ⌜k0_pay2 A = chunk m (bwd 2 c) c⌝ -∗ owing c 0 ∗ atPos EX (sendCell 2 c) 1 ∅ 0
            ∗ held c (sRows (fwd 2 c)) (chunk m c (fwd 2 c)) ∗ atPos EX (recvCell 2 c) 1 ∅ 0 ∗ held c (slot 2) (chunk m (bwd 2 c) c)
            ∗ held c gM (lay3 m c X) ∗ held c a5 (acc3 m c W) -∗ Q ⟨v, A⟩)
          -∗ wpc c (k0_part8 i xM hx a2 h2 a3 h3 a4 h4 a5 h5 cM hc sM hs gM hg lM hl cc0_scratch4 cc0_scratch5 cc0_scratch6 c v2 h1 (k0_pay14 (wRows W (bwd 1 c))) (k0_pay15 (acc2 m c W))) Q) := by
  rw [k0_part8_eq_skeleton]; unfold k0_part8_skel
  simp only [Prog.lift, Prog.bind_op, Prog.bind_ret, Prog.pure_eq_ret]
  iintro ⟨#HR, #Hlev, HO, He, Hq, Hd, Hp, Hg, Ho⟩ Hk
  iapply (load_over gM _ (o6_1 c) (colRect_inb (bwd 1 c))) $$ Hg
  iintro Hg
  iapply (load_whole a5 off_zero) $$ Ho
  iintro Ho
  iapply (store_whole a5 off_zero) $$ Ho
  iintro Ho
  iapply (wait_send m K c 2 rfl) $$ [He HO Hq]
  · isplitr; · iexact HR
    isplitl [He]; · iexact He
    isplitl [HO]; · iexact HO
    isplitr; · iexact Hlev
    iexact Hq
  iintro ⟨HO, Hq, HS⟩
  iapply (wait_recv m K c 2 rfl) $$ [Hd HO Hp]
  · isplitr; · iexact HR
    isplitl [Hd]; · iexact Hd
    isplitl [HO]; · iexact HO
    isplitr; · iexact Hlev
    iexact Hp
  iintro ⟨HO, Hp, Hl⟩
  iapply (load_slot c 2 rfl) $$ Hl
  iintro %Y %hY Hl
  iapply (load_at gM _ (o6_2 c) (colRect_inb (bwd 2 c))) $$ Hg
  iintro Hg
  iapply (done_step _ _)
  iapply Hk
  · ipureintro; exact (pay2_eq Y).trans hY
  isplitl [HO]; · iexact HO
  isplitl [Hq]; · iexact Hq
  isplitl [HS]; · iexact HS
  isplitl [Hp]; · iexact Hp
  isplitl [Hl]; · iexact Hl
  isplitl [Hg]; · iexact Hg
  iexact Ho

end Parts

end Cert.Proof

end
-- ==== Proof.Blocks.lean ====
/-
  Buffers and their blocks: a 4096-row buffer as its four rows blocks, the landing buffer as its three slots, and the
  gathered rows as four columns blocks.
-/
module

public import Idealize.ShloMosaic.Lib.MemrefSat
public import proofs.«01_k».proof.Proof.Parts

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rectangles cover, and are apart -/

theorem row_disj (b b' : Fin 4) (h : b ≠ b') : Disjoint (rowRect b).set (rowRect b').set :=
  Rect.unit_disjoint 0 (by
    show 1024 * b.val + 1024 ≤ 1024 * b'.val ∨ 1024 * b'.val + 1024 ≤ 1024 * b.val
    have := Fin.val_ne_of_ne h; omega)
theorem row_cover : (Finset.univ : Finset (Fin 4)).biUnion (fun b => (rowRect b).set) = Finset.univ := by
  refine Finset.eq_univ_iff_forall.mpr fun x => ?_
  have h0 : (x 0).val < 4096 := (x 0).isLt
  have h1 : (x 1).val < 1024 := (x 1).isLt
  refine Finset.mem_biUnion.mpr ⟨⟨(x 0).val / 1024, by omega⟩, Finset.mem_univ _, Rect.mem_set_unit.mpr fun a => ?_⟩
  fin_cases a
  · show 1024 * ((x 0).val / 1024) ≤ (x 0).val ∧ (x 0).val < 1024 * ((x 0).val / 1024) + 1024
    omega
  · show 0 ≤ (x 1).val ∧ (x 1).val < 0 + 1024
    omega

theorem col_disj (b b' : Fin 4) (h : b ≠ b') : Disjoint (colRect b).set (colRect b').set :=
  Rect.unit_disjoint 1 (by
    show 1024 * b.val + 1024 ≤ 1024 * b'.val ∨ 1024 * b'.val + 1024 ≤ 1024 * b.val
    have := Fin.val_ne_of_ne h; omega)
theorem col_cover : (Finset.univ : Finset (Fin 4)).biUnion (fun b => (colRect b).set) = Finset.univ := by
  refine Finset.eq_univ_iff_forall.mpr fun x => ?_
  have h0 : (x 0).val < 1024 := (x 0).isLt
  have h1 : (x 1).val < 4096 := (x 1).isLt
  refine Finset.mem_biUnion.mpr ⟨⟨(x 1).val / 1024, by omega⟩, Finset.mem_univ _, Rect.mem_set_unit.mpr fun a => ?_⟩
  fin_cases a
  · show 0 ≤ (x 0).val ∧ (x 0).val < 0 + 1024
    omega
  · show 1024 * ((x 1).val / 1024) ≤ (x 1).val ∧ (x 1).val < 1024 * ((x 1).val / 1024) + 1024
    omega

theorem slot_disj (j j' : Fin 3) (h : j ≠ j') : Disjoint (slotRect j).set (slotRect j').set :=
  Rect.unit_disjoint 0 (by
    show j.val + 1 ≤ j'.val ∨ j'.val + 1 ≤ j.val
    have := Fin.val_ne_of_ne h; omega)
theorem slot_cover : (Finset.univ : Finset (Fin 3)).biUnion (fun j => (slotRect j).set) = Finset.univ := by
  refine Finset.eq_univ_iff_forall.mpr fun x => ?_
  have h0 : (x 0).val < 3 := (x 0).isLt
  have h1 : (x 1).val < 1024 := (x 1).isLt
  have h2 : (x 2).val < 1024 := (x 2).isLt
  refine Finset.mem_biUnion.mpr ⟨⟨(x 0).val, h0⟩, Finset.mem_univ _, Rect.mem_set_unit.mpr fun a => ?_⟩
  fin_cases a
  · show (x 0).val ≤ (x 0).val ∧ (x 0).val < (x 0).val + 1
    omega
  · show 0 ≤ (x 1).val ∧ (x 1).val < 0 + 1024
    omega
  · show 0 ≤ (x 2).val ∧ (x 2).val < 0 + 1024
    omega

/-! ## The four blocks in a device's order -/

/-- The blocks from a device's own on, in the order it sends them, -/
theorem blocks_fwd (c : Dev nD) : (Finset.univ : Finset (Fin 4)) = [c, fwd 0 c, fwd 1 c, fwd 2 c].toFinset := by revert c; decide
theorem nodup_fwd (c : Dev nD) : [c, fwd 0 c, fwd 1 c, fwd 2 c].Nodup := by revert c; decide
/-- and in the order it receives them. -/
theorem blocks_bwd (c : Dev nD) (b : Fin 4) : b = c ∨ b = bwd 0 c ∨ b = bwd 1 c ∨ b = bwd 2 c := by revert c b; decide
theorem bwd_apart (c : Dev nD) : bwd 0 c ≠ c ∧ bwd 1 c ≠ c ∧ bwd 2 c ≠ c ∧ bwd 1 c ≠ bwd 0 c ∧ bwd 2 c ≠ bwd 0 c ∧ bwd 2 c ≠ bwd 1 c := by
  revert c; decide

omit [FloatOps F] in
theorem four_fwd (c : Dev nD) (Φ : Fin 4 → sProp 𝕄) :
    bigSep Finset.univ Φ = iprop(Φ c ∗ Φ (fwd 0 c) ∗ Φ (fwd 1 c) ∗ Φ (fwd 2 c)) :=
  bigSep_univ_eq_bigSepL [c, fwd 0 c, fwd 1 c, fwd 2 c] (blocks_fwd c) (nodup_fwd c) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

instance elt_nonempty (e : EltTy) : Nonempty (Elt F e) := inferInstance

section Rows

variable {c : Dev nD} {sp : Space} {e : EltTy}

omit [FloatOps F] in
/-- A 4096-row buffer held at `X` is its four rows blocks held at `X`'s, -/
theorem rows_split (d : Dev nD) (M : Memref sig .tc sp S4096x1024 e) (X : S4096x1024.Idx → Elt F e) :
    (held c M X : sProp 𝕄)
      ⊢ iprop(held c (M.slice (rowRect d) (fun _ => rfl)) (fun i => X ((rowRect d).emb i))
          ∗ held c (M.slice (rowRect (fwd 0 d)) (fun _ => rfl)) (fun i => X ((rowRect (fwd 0 d)).emb i))
          ∗ held c (M.slice (rowRect (fwd 1 d)) (fun _ => rfl)) (fun i => X ((rowRect (fwd 1 d)).emb i))
          ∗ held c (M.slice (rowRect (fwd 2 d)) (fun _ => rfl)) (fun i => X ((rowRect (fwd 2 d)).emb i))) :=
  (owns_rects (c : Thread nD τ) M fullShare rowRect (fun _ _ => rfl) row_disj row_cover X).trans (Entails.of_eq (four_fwd d _))

/-- and back; -/
theorem rows_join (d : Dev nD) (M : Memref sig .tc sp S4096x1024 e) (X : S4096x1024.Idx → Elt F e) :
    iprop(held c (M.slice (rowRect d) (fun _ => rfl)) (fun i => X ((rowRect d).emb i))
          ∗ held c (M.slice (rowRect (fwd 0 d)) (fun _ => rfl)) (fun i => X ((rowRect (fwd 0 d)).emb i))
          ∗ held c (M.slice (rowRect (fwd 1 d)) (fun _ => rfl)) (fun i => X ((rowRect (fwd 1 d)).emb i))
          ∗ held c (M.slice (rowRect (fwd 2 d)) (fun _ => rfl)) (fun i => X ((rowRect (fwd 2 d)).emb i)))
      ⊢ (held c M X : sProp 𝕄) :=
  (Entails.of_eq (four_fwd d fun b => held c (M.slice (rowRect b) (fun _ => rfl)) (fun i => X ((rowRect b).emb i))).symm).trans
    (owns_of_rects (c : Thread nD τ) M fullShare rowRect (fun _ _ => rfl) row_disj row_cover X)

omit [FloatOps F] in
/-- and the same at some contents. -/
theorem rows_split_some (d : Dev nD) (M : Memref sig .tc sp S4096x1024 e) :
    (someAt (F := F) c M : sProp 𝕄)
      ⊢ iprop(someAt c (M.slice (rowRect d) (fun _ => rfl)) ∗ someAt c (M.slice (rowRect (fwd 0 d)) (fun _ => rfl))
          ∗ someAt c (M.slice (rowRect (fwd 1 d)) (fun _ => rfl)) ∗ someAt c (M.slice (rowRect (fwd 2 d)) (fun _ => rfl))) := by
  iintro ⟨%X, H⟩
  ihave H := (rows_split d M X) $$ H
  icases H with ⟨H0, H1, H2, H3⟩
  isplitl [H0]; · iexists _; iexact H0
  isplitl [H1]; · iexists _; iexact H1
  isplitl [H2]; · iexists _; iexact H2
  iexists _; iexact H3

theorem rows_join_some (d : Dev nD) (M : Memref sig .tc sp S4096x1024 e) :
    iprop(someAt c (M.slice (rowRect d) (fun _ => rfl)) ∗ someAt c (M.slice (rowRect (fwd 0 d)) (fun _ => rfl))
          ∗ someAt c (M.slice (rowRect (fwd 1 d)) (fun _ => rfl)) ∗ someAt c (M.slice (rowRect (fwd 2 d)) (fun _ => rfl)))
      ⊢ (someAt (F := F) c M : sProp 𝕄) :=
  (Entails.of_eq (four_fwd d fun b => someAt (F := F) c (M.slice (rowRect b) (fun _ => rfl))).symm).trans
    ((bigSep_mono fun b _ => (ownsSat_true (c : Thread nD τ) (M.slice (rowRect b) (fun _ => rfl)) fullShare).2).trans
      ((ownsSat_of_rects (c : Thread nD τ) M fullShare rowRect (fun _ _ => rfl) row_disj row_cover fun _ _ => True).trans
        (ownsSat_any (c : Thread nD τ) M fullShare)))

end Rows

/-! ## The landing slots -/

omit [FloatOps F] in
theorem slot_open (c : Dev nD) (j : Fin 3) : (someAt (F := F) c (slot3 j) : sProp 𝕄) ⊢ someAt c (slot j) := by
  iintro ⟨%X, H⟩
  ihave H := (held_open _ _) $$ H
  icases H with ⟨%f, -, H⟩
  iexists (slot j).view.read (Elt F) f
  unfold held owns
  iexists f
  isplitr; · ipureintro; rfl
  rw [show (slot j).view.set = (slot3 j).view.set from View.set_reshape (v := (slot3 j).view) _]
  iexact H
omit [FloatOps F] in
theorem slot_close (c : Dev nD) (j : Fin 3) : (someAt (F := F) c (slot j) : sProp 𝕄) ⊢ someAt c (slot3 j) := by
  iintro ⟨%X, H⟩
  ihave H := (held_open _ _) $$ H
  icases H with ⟨%f, -, H⟩
  iexists (slot3 j).view.read (Elt F) f
  unfold held owns
  iexists f
  isplitr; · ipureintro; rfl
  rw [← show (slot j).view.set = (slot3 j).view.set from View.set_reshape (v := (slot3 j).view) _]
  iexact H

omit [FloatOps F] in
theorem slots_split (c : Dev nD) : (someAt (F := F) c lM : sProp 𝕄) ⊢ iprop(someAt c (slot 0) ∗ someAt c (slot 1) ∗ someAt c (slot 2)) := by
  refine BIBase.Entails.trans ?_ ((Entails.of_eq (bigSep_fin3 fun j => someAt (F := F) c (slot3 j))).trans
    (BIClass.sep_mono (slot_open c 0) (BIClass.sep_mono (slot_open c 1) (slot_open c 2))))
  iintro ⟨%X, H⟩
  ihave H := (owns_rects (c : Thread nD τ) lM fullShare slotRect (fun _ _ => rfl) slot_disj slot_cover X) $$ H
  have h : (bigSep Finset.univ fun j => owns (c : Thread nD τ) (lM.slice (slotRect j) (fun _ => rfl)) fullShare fun i => X ((slotRect j).emb i))
      ⊢ (bigSep Finset.univ fun j => someAt (F := F) c (slot3 j) : sProp 𝕄) :=
    bigSep_mono fun j _ => show (held c (slot3 j) fun i => X ((slotRect j).emb i) : sProp 𝕄) ⊢ someAt c (slot3 j) from by
      iintro H; iexists _; iexact H
  iapply h; iexact H

theorem slots_join (c : Dev nD) : iprop(someAt c (slot 0) ∗ someAt c (slot 1) ∗ someAt c (slot 2)) ⊢ (someAt (F := F) c lM : sProp 𝕄) :=
  (BIClass.sep_mono (slot_close c 0) (BIClass.sep_mono (slot_close c 1) (slot_close c 2))).trans
    ((Entails.of_eq (bigSep_fin3 fun j => someAt (F := F) c (slot3 j)).symm).trans
      ((bigSep_mono fun j _ => (ownsSat_true (c : Thread nD τ) (slot3 j) fullShare).2).trans
        ((ownsSat_of_rects (c : Thread nD τ) lM fullShare slotRect (fun _ _ => rfl) slot_disj slot_cover fun _ _ => True).trans
          (ownsSat_any (c : Thread nD τ) lM fullShare))))

/-! ## The gathered rows -/

/-- Device `c`'s rows of `x` in the short format: columns block `b` is the chunk device `b` has for `c`. -/
def gath (c : Dev nD) : S1024x4096.Idx → Elt F .fp8e4m3 := Rect.glue colRect col_cover fun b => chunk m b c

theorem gath_emb (c : Dev nD) (b : Fin 4) (i : S1024x1024.Idx) : gath m c ((colRect b).emb i) = chunk m b c i :=
  Rect.glue_emb colRect col_cover col_disj (fun b => chunk m b c) b i

omit [FloatOps F] in
theorem overlay_apart {b b' : Fin 4} (h : b ≠ b') (X : S1024x4096.Idx → Elt F .fp8e4m3) (G : S1024x1024.Idx → Elt F .fp8e4m3) (i : S1024x1024.Idx) :
    (colRect b).overlay X G ((colRect b').emb i) = X ((colRect b').emb i) :=
  Rect.overlay_of_not_mem _ _ _ (Finset.disjoint_right.mp (col_disj b b' h) (by
    rw [← Rect.map_emb_univ]; exact Finset.mem_map_of_mem _ (Finset.mem_univ i)))

/-- The four chunks laid, whatever the scratch held: the gathered rows. -/
theorem lay4_eq (c : Dev nD) (X : S1024x4096.Idx → Elt F .fp8e4m3) : lay4 m c X = gath m c := by
  obtain ⟨h0, h1, h2, h10, h20, h21⟩ := bwd_apart c
  refine Rect.ext_of_cover colRect col_cover fun b i => ?_
  rw [gath_emb]
  rcases blocks_bwd c b with h | h | h | h
  · subst h; rw [lay4, overlay_apart h2, lay3, overlay_apart h1, lay2, overlay_apart h0, lay1, Rect.overlay_emb]
  · subst h; rw [lay4, overlay_apart h20, lay3, overlay_apart h10, lay2, Rect.overlay_emb]
  · subst h; rw [lay4, overlay_apart h21, lay3, Rect.overlay_emb]
  · subst h; rw [lay4, Rect.overlay_emb]

end Cert.Proof

end
-- ==== Proof.Body.lean ====
/-
  The body, run from its first effect to its last: the first grid point with its exchange, and any other point.
-/
module

public import proofs.«01_k».proof.Proof.Blocks

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-! ## Before the first point, and after it -/

/-- A device's positions after its eleven waits. -/
def passed (c : Dev nD) : sProp 𝕄 :=
  iprop(atPos EX (barCell c) 1 ∅ 0
    ∗ (atPos EX (copyCell 0 c) 1 ∅ 0 ∗ atPos EX (copyCell 1 c) 1 ∅ 0 ∗ atPos EX (copyCell 2 c) 1 ∅ 0 ∗ atPos EX (copyCell 3 c) 1 ∅ 0)
    ∗ (atPos EX (sendCell 0 c) 1 ∅ 0 ∗ atPos EX (sendCell 1 c) 1 ∅ 0 ∗ atPos EX (sendCell 2 c) 1 ∅ 0)
    ∗ (atPos EX (recvCell 0 c) 1 ∅ 0 ∗ atPos EX (recvCell 1 c) 1 ∅ 0 ∗ atPos EX (recvCell 2 c) 1 ∅ 0))

/-- The kernel's own ten counters at zero, -/
def ownZero (c : Dev nD) : sProp 𝕄 :=
  iprop(semVal (copyCell 0 c) 0 ∗ semVal (copyCell 1 c) 0 ∗ semVal (copyCell 2 c) 0 ∗ semVal (copyCell 3 c) 0
    ∗ semVal (sendCell 0 c) 0 ∗ semVal (sendCell 1 c) 0 ∗ semVal (sendCell 2 c) 0
    ∗ semVal (recvCell 0 c) 0 ∗ semVal (recvCell 1 c) 0 ∗ semVal (recvCell 2 c) 0)
/-- and the barrier's with them. -/
def allZero (c : Dev nD) : sProp 𝕄 := iprop(semVal (barCell c) 0 ∗ ownZero c)

/-- One cell closed: its round passed, its counter at zero. -/
theorem close_one (c : Dev nD) (k : CK) :
    iprop(records m K ∗ atPos EX (kcell (c, k)) 1 ∅ 0) ⊢ iprop(|={Set.univ}=> semVal (kcell (c, k)) 0) := by
  iintro ⟨#HR, H⟩
  iapply (Rounds.cell_close EX (exRd m) (Set.mem_univ (K (c, k))) (fun h => h) (R := 1) (duties_later m (kcell (c, k))))
  isplitr; · iapply (inv_at m K c k); iexact HR
  iexact H

/-- All eleven. -/
theorem close_all (c : Dev nD) : iprop(records m K ∗ passed c) ⊢ iprop(|={Set.univ}=> allZero c) := by
  unfold passed allZero ownZero
  iintro ⟨#HR, HB, ⟨H0, H1, H2, H3⟩, ⟨H4, H5, H6⟩, H7, H8, H9⟩
  imod (close_one m K c kB) $$ [HB] with HB
  · isplitr; · iexact HR
    iexact HB
  imod (close_one m K c (kC 0)) $$ [H0] with H0
  · isplitr; · iexact HR
    iexact H0
  imod (close_one m K c (kC 1)) $$ [H1] with H1
  · isplitr; · iexact HR
    iexact H1
  imod (close_one m K c (kC 2)) $$ [H2] with H2
  · isplitr; · iexact HR
    iexact H2
  imod (close_one m K c (kC 3)) $$ [H3] with H3
  · isplitr; · iexact HR
    iexact H3
  imod (close_one m K c (kS 0)) $$ [H4] with H4
  · isplitr; · iexact HR
    iexact H4
  imod (close_one m K c (kS 1)) $$ [H5] with H5
  · isplitr; · iexact HR
    iexact H5
  imod (close_one m K c (kS 2)) $$ [H6] with H6
  · isplitr; · iexact HR
    iexact H6
  imod (close_one m K c (kR 0)) $$ [H7] with H7
  · isplitr; · iexact HR
    iexact H7
  imod (close_one m K c (kR 1)) $$ [H8] with H8
  · isplitr; · iexact HR
    iexact H8
  imod (close_one m K c (kR 2)) $$ [H9] with H9
  · isplitr; · iexact HR
    iexact H9
  imodintro
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- What a device starts the first point with, -/
def before1 (c : Dev nD) : sProp 𝕄 :=
  iprop(records m K ∗ levAts L lv ∗ positions c ∗ payToks c ∗ credits c
    ∗ held c xM (xAt m c) ∗ someAt c cM ∗ someAt c sM ∗ someAt c gM ∗ someAt c lM)
/-- and what it keeps from then on: its rows gathered, `x` as it was, every counter at zero. -/
def after1 (c : Dev nD) : sProp 𝕄 :=
  iprop(held c gM (gath m c) ∗ held c xM (xAt m c) ∗ someAt c cM ∗ someAt c sM ∗ someAt c lM ∗ allZero c)

/-- The two results of a body run. -/
abbrev firstOut (c : Dev nD) (W : S4096x512.Idx → Elt F .f32) (s1 s2 : S1.Idx → Elt F .f32) : S1024x512.Idx → Elt F .f32 :=
  k0_pay4 (s1 ix0) (s2 ix0) (acc4 m c W)
abbrev nextOut (c : Dev nD) (W : S4096x512.Idx → Elt F .f32) (s1 s2 : S1.Idx → Elt F .f32) : S1024x512.Idx → Elt F .f32 :=
  k0_pay5 (s1 ix0) (s2 ix0) W (gath m c)

section Runs

variable {c : Dev nD} {i : grid0.Coords} {hx : xM.IsWhole} {a2 : Memref sig .tc .vmem S4096x512 .f32} {h2 : a2.IsWhole}
  {a3 : Memref sig .tc .smem S1 .f32} {h3 : a3.IsWhole} {a4 : Memref sig .tc .smem S1 .f32} {h4 : a4.IsWhole}
  {a5 : Memref sig .tc .vmem S1024x512 .f32} {h5 : a5.IsWhole} {hc : cM.IsWhole} {hs : sM.IsWhole} {hg : gM.IsWhole} {hl : lM.IsWhole}
  {W : S4096x512.Idx → Elt F .f32} {s1 s2 : S1.Idx → Elt F .f32}

set_option maxHeartbeats 1600000 in
/-- The first point: the exchange, then the four partial products summed, scaled and cut at zero. -/
theorem first_run (h1 : k0_cond1 i = 1#1) (hn : ¬k0_cond2 i = 1#1) {Q : PUnit → sProp 𝕄} :
    iprop(before1 m K c ∗ owing c (O₀ c) ∗ held c a2 W ∗ held c a3 s1 ∗ held c a4 s2 ∗ someAt c a5)
      ⊢ iprop((after1 m c ∗ owing c 0 ∗ held c a2 W ∗ held c a3 s1 ∗ held c a4 s2 ∗ held c a5 (firstOut m c W s1 s2) -∗ Q ⟨⟩)
          -∗ wpc c (cc0_body i xM hx a2 h2 a3 h3 a4 h4 a5 h5 cM hc sM hs gM hg lM hl cc0_scratch4 cc0_scratch5 cc0_scratch6) Q) := by
  rw [cc0_body_eq_skeleton]; unfold cc0_body_skel
  simp only [dif_pos h1, dif_neg hn, smemLoad, Prog.lift, Prog.bind_op, Prog.bind_ret, Prog.pure_eq_ret, wp_deviceId]
  unfold before1 positions payToks credits
  iintro ⟨⟨#HR, #Hlev, ⟨HpB, ⟨HpC0, HpC1, HpC2, HpC3⟩, ⟨HpS0, HpS1, HpS2⟩, HpR0, HpR1, HpR2⟩,
    ⟨HtB, HtC, ⟨HtS0, HtS1, HtS2⟩, HtR0, HtR1, HtR2⟩, ⟨HcB, HcR0, HcR1, HcR2⟩, Hx, Hc, Hs, ⟨%X, Hg⟩, Hl⟩,
    HO, Hw, H3, H4, ⟨%Y, Ho⟩⟩ Hk
  ihave Hx := (rows_split c xM (xAt m c)) $$ Hx
  ihave Hc := (rows_split_some c cM) $$ Hc
  ihave Hs := (rows_split_some c sM) $$ Hs
  icases Hs with ⟨Hs, Hs0, Hs1, Hs2⟩
  ihave Hl := (slots_split c) $$ Hl
  simp only [wp_bind]
  iapply (smem_load a3) $$ H3
  iintro H3
  iapply (done_step _ _)
  iapply (smem_load a4) $$ H4
  iintro H4
  iapply (done_step _ _)
  iapply (part1 m K) $$ [HO HtB Hl]
  · isplitr; · iexact HR
    isplitl [HO]; · iexact HO
    isplitl [HtB]; · iexact HtB
    iexact Hl
  iintro HO
  iapply (part2 m K rfl) $$ [HO Hx Hc HtC HcB HpB HpC1 Hs0]
  · isplitr; · iexact HR
    isplitr; · iexact Hlev
    isplitl [HO]; · iexact HO
    isplitl [Hx]; · iexact Hx
    isplitl [Hc]; · iexact Hc
    isplitl [HtC]; · iexact HtC
    isplitl [HcB]; · iexact HcB
    isplitl [HpB]; · iexact HpB
    isplitl [HpC1]; · iexact HpC1
    iexact Hs0
  iintro %v ⟨HO, HpB, HpC1, ⟨Hd0, Hd1, Hd2⟩, ⟨HcC0, HcC2, HcC3⟩, Hc1, Hx1, Hs0⟩
  iapply (part3 m K) $$ [HO Hs0 Hd0 HtS0 HtR0 HcC2 HpC2 Hs1]
  · isplitr; · iexact HR
    isplitr; · iexact Hlev
    isplitl [HO]; · iexact HO
    isplitl [Hs0]; · iexact Hs0
    isplitl [Hd0]; · iexact Hd0
    isplitl [HtS0]; · iexact HtS0
    isplitl [HtR0]; · iexact HtR0
    isplitl [HcC2]; · iexact HcC2
    isplitl [HpC2]; · iexact HpC2
    iexact Hs1
  iintro ⟨HO, HcS0, HpC2, Hc2, Hx2, Hs1⟩
  iapply (part4 m K) $$ [HO Hs1 Hd1 HtS1 HtR1 HcC3 HpC3 Hs2 Hd2 HtS2 HtR2]
  · isplitr; · iexact HR
    isplitr; · iexact Hlev
    isplitl [HO]; · iexact HO
    isplitl [Hs1]; · iexact Hs1
    isplitl [Hd1]; · iexact Hd1
    isplitl [HtS1]; · iexact HtS1
    isplitl [HtR1]; · iexact HtR1
    isplitl [HcC3]; · iexact HcC3
    isplitl [HpC3]; · iexact HpC3
    isplitl [Hs2]; · iexact Hs2
    isplitl [Hd2]; · iexact Hd2
    isplitl [HtS2]; · iexact HtS2
    iexact HtR2
  iintro ⟨HO, HcS1, HcS2, HpC3, Hc3, Hx3⟩
  iapply (part5 m K) $$ [HO HcC0 HpC0 Hg Hw Ho HcS0 HpS0]
  · isplitr; · iexact HR
    isplitr; · iexact Hlev
    isplitl [HO]; · iexact HO
    isplitl [HcC0]; · iexact HcC0
    isplitl [HpC0]; · iexact HpC0
    isplitl [Hg]; · iexact Hg
    isplitl [Hw]; · iexact Hw
    isplitl [Ho]; · iexact Ho
    isplitl [HcS0]; · iexact HcS0
    iexact HpS0
  iintro ⟨HO, HpC0, HpS0, Hc0, Hx0, Hg, Hw, Ho, Hs0⟩
  iapply (part6 m K) $$ [HO HcR0 HpR0 Hg Hw Ho]
  · isplitr; · iexact HR
    isplitr; · iexact Hlev
    isplitl [HO]; · iexact HO
    isplitl [HcR0]; · iexact HcR0
    isplitl [HpR0]; · iexact HpR0
    isplitl [Hg]; · iexact Hg
    isplitl [Hw]; · iexact Hw
    iexact Ho
  iintro %v' ⟨HO, HpR0, Hl0, Hg, Hw, Ho⟩
  iapply (part7 m K) $$ [HO HcS1 HpS1 HcR1 HpR1 Hg Hw Ho]
  · isplitr; · iexact HR
    isplitr; · iexact Hlev
    isplitl [HO]; · iexact HO
    isplitl [HcS1]; · iexact HcS1
    isplitl [HpS1]; · iexact HpS1
    isplitl [HcR1]; · iexact HcR1
    isplitl [HpR1]; · iexact HpR1
    isplitl [Hg]; · iexact Hg
    isplitl [Hw]; · iexact Hw
    iexact Ho
  iintro ⟨HO, HpS1, Hs1, HpR1, Hl1, Hg, Hw, Ho⟩
  simp only [wp_bind]
  iapply (part8 m K) $$ [HO HcS2 HpS2 HcR2 HpR2 Hg Ho]
  · isplitr; · iexact HR
    isplitr; · iexact Hlev
    isplitl [HO]; · iexact HO
    isplitl [HcS2]; · iexact HcS2
    isplitl [HpS2]; · iexact HpS2
    isplitl [HcR2]; · iexact HcR2
    isplitl [HpR2]; · iexact HpR2
    isplitl [Hg]; · iexact Hg
    iexact Ho
  iintro %u %A %hA ⟨HO, HpS2, Hs2, HpR2, Hl2, Hg, Ho⟩
  dsimp only
  iapply (store_as gM _ (o6_2 c) (colRect_inb (bwd 2 c)) (chunk m (bwd 2 c) c) hA) $$ Hg
  iintro Hg
  iapply (load_at a2 _ (o7_2 c) (wRect_inb (bwd 2 c))) $$ Hw
  iintro Hw
  iapply (load_whole a5 off_zero) $$ Ho
  iintro Ho
  iapply (load_over gM _ (o6_2 c) (colRect_inb (bwd 2 c))) $$ Hg
  iintro Hg
  iapply (load_whole a5 off_zero) $$ Ho
  iintro Ho
  iapply (store_whole a5 off_zero) $$ Ho
  iintro Ho
  iapply (load_whole a5 off_zero) $$ Ho
  iintro Ho
  iapply (load_whole a5 off_zero) $$ Ho
  iintro Ho
  iapply (store_whole a5 off_zero) $$ Ho
  iintro Ho
  ihave Hz := (close_all m K c) $$ [HpB HpC0 HpC1 HpC2 HpC3 HpS0 HpS1 HpS2 HpR0 HpR1 HpR2]
  · unfold passed
    isplitr; · iexact HR
    isplitl [HpB]; · iexact HpB
    isplitl [HpC0 HpC1 HpC2 HpC3]
    · isplitl [HpC0]; · iexact HpC0
      isplitl [HpC1]; · iexact HpC1
      isplitl [HpC2]; · iexact HpC2
      iexact HpC3
    isplitl [HpS0 HpS1 HpS2]
    · isplitl [HpS0]; · iexact HpS0
      isplitl [HpS1]; · iexact HpS1
      iexact HpS2
    isplitl [HpR0]; · iexact HpR0
    isplitl [HpR1]; · iexact HpR1
    iexact HpR2
  imod Hz
  iapply (done_step _ _)
  iapply Hk
  unfold after1
  isplitr [HO Hw H3 H4 Ho]
  · isplitl [Hg]
    · rw [← lay4_eq m c X]; iexact Hg
    isplitl [Hx0 Hx1 Hx2 Hx3]
    · iapply (rows_join c xM (xAt m c))
      isplitl [Hx0]; · iexact Hx0
      isplitl [Hx1]; · iexact Hx1
      isplitl [Hx2]; · iexact Hx2
      iexact Hx3
    isplitl [Hc0 Hc1 Hc2 Hc3]
    · iapply (rows_join_some c cM)
      isplitl [Hc0]; · iexists _; iexact Hc0
      isplitl [Hc1]; · iexists _; iexact Hc1
      isplitl [Hc2]; · iexists _; iexact Hc2
      iexists _; iexact Hc3
    isplitl [Hs Hs0 Hs1 Hs2]
    · iapply (rows_join_some c sM)
      isplitl [Hs]; · iexact Hs
      isplitl [Hs0]; · iexists _; iexact Hs0
      isplitl [Hs1]; · iexists _; iexact Hs1
      iexists _; iexact Hs2
    isplitl [Hl0 Hl1 Hl2]
    · iapply (slots_join c)
      isplitl [Hl0]; · iexists _; iexact Hl0
      isplitl [Hl1]; · iexists _; iexact Hl1
      iexists _; iexact Hl2
    iexact Hz
  isplitl [HO]; · iexact HO
  isplitl [Hw]; · iexact Hw
  isplitl [H3]; · iexact H3
  isplitl [H4]; · iexact H4
  iexact Ho

/-- Any other point: the gathered rows times the point's block of `w`, scaled and cut at zero. -/
theorem next_run (hn : ¬k0_cond1 i = 1#1) (h2' : k0_cond2 i = 1#1) {Q : PUnit → sProp 𝕄} :
    iprop(held c gM (gath m c) ∗ held c a2 W ∗ held c a3 s1 ∗ held c a4 s2 ∗ someAt c a5)
      ⊢ iprop((held c gM (gath m c) ∗ held c a2 W ∗ held c a3 s1 ∗ held c a4 s2 ∗ held c a5 (nextOut m c W s1 s2) -∗ Q ⟨⟩)
          -∗ wpc c (cc0_body i xM hx a2 h2 a3 h3 a4 h4 a5 h5 cM hc sM hs gM hg lM hl cc0_scratch4 cc0_scratch5 cc0_scratch6) Q) := by
  rw [cc0_body_eq_skeleton]; unfold cc0_body_skel
  simp only [dif_neg hn, dif_pos h2', smemLoad, Prog.lift, Prog.bind_op, Prog.bind_ret, Prog.pure_eq_ret, wp_deviceId]
  iintro ⟨Hg, Hw, H3, H4, ⟨%Y, Ho⟩⟩ Hk
  simp only [wp_bind]
  iapply (smem_load a3) $$ H3
  iintro H3
  iapply (done_step _ _)
  iapply (smem_load a4) $$ H4
  iintro H4
  iapply (done_step _ _)
  iapply (load_whole a2 off_zero) $$ Hw
  iintro Hw
  iapply (load_whole gM off_zero) $$ Hg
  iintro Hg
  iapply (load_whole a5 off_zero) $$ Ho
  iintro Ho
  iapply (store_whole a5 off_zero) $$ Ho
  iintro Ho
  iapply (done_step _ _)
  iapply Hk
  isplitl [Hg]; · iexact Hg
  isplitl [Hw]; · iexact Hw
  isplitl [H3]; · iexact H3
  isplitl [H4]; · iexact H4
  iexact Ho

end Runs

end Cert.Proof

end
-- ==== Proof.Obligation.lean ====
/-
  The pipeline around the body: what each window holds at a point, what a device holds beside the windows, and the body
  obligation.
-/
module

public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data -/

/-- Core `c`'s TensorCore buffers as launched, and window `w`'s block of its array at a point. -/
def blockAt (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The columns block of `w` at a point, and the two scales. -/
abbrev wAt (c : Dev nD) (t : Fin cfg0.N) : S4096x512.Idx → Elt F .f32 := blockAt m c 0 t
abbrev sxAt (c : Dev nD) (t : Fin cfg0.N) : S1.Idx → Elt F .f32 := blockAt m c 1 t
abbrev swAt (c : Dev nD) (t : Fin cfg0.N) : S1.Idx → Elt F .f32 := blockAt m c 2 t

/-- What the body leaves in the result's staging buffer at a point. -/
def outAt (c : Dev nD) (t : Fin cfg0.N) : S1024x512.Idx → Elt F .f32 :=
  if t.val = 0 then firstOut m c (wAt m c t) (sxAt m c t) (swAt m c t) else nextOut m c (wAt m c t) (sxAt m c t) (swAt m c t)

/-- What a device holds beside the windows before a point: at the first what the launch gave it, later what the first
    point left. -/
def holdsAt (c : Dev nD) : ℕ → sProp 𝕄
  | 0 => iprop(∃ K, before1 m K c)
  | _ + 1 => after1 m c

def owesBefore (c : Dev nD) : ℕ → CellTallies nD τ sig Unit
  | 0 => O₀ c
  | _ + 1 => 0

/-- The pipeline's proof data: inputs as fetched, the result at `outAt`, everything owed paid at the first point. -/
def dats (_ : Fin 1) (c : Dev nD) : Dat τ (Elt F) Unit ℕ UU ℕ cfg0 c where
  A w := m ((c : Thread nD τ).loc (Pipeline.arrRef spec0 w))
  after w t := match w with
    | ⟨0, _⟩ => wAt m c t
    | ⟨1, _⟩ => sxAt m c t
    | ⟨2, _⟩ => swAt m c t
    | ⟨3, _⟩ => outAt m c t
  Φ t := holdsAt m c t.val
  q _ := fullShare
  owed t := owesBefore c t.val

/-- Each input's staging buffer holds its block at every point. -/
theorem before_w (c : Dev nD) (t : Fin cfg0.N) (d) : (dats m 0 c).before 0 t d = wAt m c t :=
  ((dats m 0 c).before_in_eq_fetched 0 rfl (fun _ => rfl) (fun _ _ _ => rfl) (fun _ => rfl) t d).trans rfl
theorem before_sx (c : Dev nD) (t : Fin cfg0.N) (d) : (dats m 0 c).before 1 t d = sxAt m c t :=
  ((dats m 0 c).before_in_eq_fetched 1 rfl (fun _ => rfl) (fun _ _ _ => rfl) (fun _ => rfl) t d).trans rfl
theorem before_sw (c : Dev nD) (t : Fin cfg0.N) (d) : (dats m 0 c).before 2 t d = swAt m c t :=
  ((dats m 0 c).before_in_eq_fetched 2 rfl (fun _ => rfl) (fun _ _ _ => rfl) (fun _ => rfl) t d).trans rfl

/-! ## Which branch a point takes -/

theorem cond1_iff (t : Fin cfg0.N) : k0_cond1 (grid0.coords t) = 1#1 ↔ t.val = 0 :=
  (by decide : ∀ t : Fin grid0.N, k0_cond1 (grid0.coords t) = 1#1 ↔ t.val = 0) t
theorem cond2_iff (t : Fin cfg0.N) : k0_cond2 (grid0.coords t) = 1#1 ↔ t.val ≠ 0 :=
  (by decide : ∀ t : Fin grid0.N, k0_cond2 (grid0.coords t) = 1#1 ↔ t.val ≠ 0) t

/-! ## The body obligation -/

/-- What the pipeline hands the body at a point, the windows one by one, -/
def bodyPre (c : Dev nD) (t : Fin cfg0.N) : sProp 𝕄 :=
  iprop(holdsAt m c t.val ∗ (dats m 0 c).owesAt () t.castSucc
    ∗ (∃ d, held c (st0_0 t) ((dats m 0 c).before 0 t d)) ∗ (∃ d, held c (st0_1 t) ((dats m 0 c).before 1 t d))
    ∗ (∃ d, held c (st0_2 t) ((dats m 0 c).before 2 t d)) ∗ (∃ d, held c (st0_3 t) ((dats m 0 c).before 3 t d)))
/-- and what it takes back. -/
def bodyPost (c : Dev nD) (t : Fin cfg0.N) : sProp 𝕄 :=
  iprop(after1 m c ∗ (dats m 0 c).owesAt () t.succ
    ∗ held c (st0_0 t) (wAt m c t) ∗ held c (st0_1 t) (sxAt m c t) ∗ held c (st0_2 t) (swAt m c t) ∗ held c (st0_3 t) (outAt m c t))

theorem body_at (c : Dev nD) (t : Fin cfg0.N) : bodyPre m c t ⊢ wpc c (bodyAt0 t) (fun _ => bodyPost m c t) := by
  unfold bodyPre bodyPost
  iintro ⟨HH, HO, ⟨%d0, Hw⟩, ⟨%d1, H3⟩, ⟨%d2, H4⟩, ⟨%d3, Ho⟩⟩
  rw [before_w, before_sx, before_sw]
  unfold Dat.owesAt Pipeline.owesWithin
  icases HO with ⟨%V, -, HO⟩
  rw [show (dats m 0 c).owed t.castSucc = owesBefore c t.val from rfl, show (dats m 0 c).owed t.succ = 0 from rfl]
  by_cases h : t.val = 0
  · rw [show outAt m c t = _ from if_pos h, h]
    unfold holdsAt owesBefore
    icases HH with ⟨%K, HH⟩
    iapply (first_run m K ((cond1_iff t).mpr h) (fun h' => (cond2_iff t).mp h' h)) $$ [HH HO Hw H3 H4 Ho]
    · isplitl [HH]; · iexact HH
      isplitl [HO]; · iexists V; iexact HO
      isplitl [Hw]; · iexact Hw
      isplitl [H3]; · iexact H3
      isplitl [H4]; · iexact H4
      iexists _; iexact Ho
    iintro ⟨HH, ⟨%V', HO⟩, Hrest⟩
    isplitl [HH]; · iexact HH
    isplitl [HO]
    · iexists V'
      isplitr; · ipureintro; exact fun _ _ => Or.inl trivial
      iexact HO
    iexact Hrest
  · obtain ⟨n, hn⟩ := Nat.exists_eq_succ_of_ne_zero h
    rw [show outAt m c t = _ from if_neg h, hn]
    unfold holdsAt owesBefore after1
    icases HH with ⟨Hg, HH⟩
    iapply (next_run m (fun h' => h ((cond1_iff t).mp h')) ((cond2_iff t).mpr h)) $$ [Hg Hw H3 H4 Ho]
    · isplitl [Hg]; · iexact Hg
      isplitl [Hw]; · iexact Hw
      isplitl [H3]; · iexact H3
      isplitl [H4]; · iexact H4
      iexists _; iexact Ho
    iintro ⟨Hg, Hrest⟩
    isplitl [Hg HH]
    · isplitl [Hg]; · iexact Hg
      iexact HH
    isplitl [HO]
    · iexists V
      isplitr; · ipureintro; exact fun _ _ => Or.inl trivial
      iexact HO
    iexact Hrest

/-- The output's window is written at every point. -/
theorem idle_out (t : Fin cfg0.N) : cfg0.idle 3 (cfg0.grid.coords t) = false :=
  (by decide : ∀ t : Fin grid0.N, idle0 3 (grid0.coords t) = false) t

/-- The library's body obligation on core `c`. -/
theorem body_obligation (c : Dev nD) : BodyObligation (dats m 0 c) (defs₀ (F := F)) 𝒱₀ () Set.univ := fun t => by
  rw [bigSep_W0, bigSep_W0, idle_out t]
  exact body_at m c t

end Cert.Proof

end
-- ==== Proof.Launch.lean ====
/-
  The launch: the rounds library's element dealt, every cell's invariant allocated at once, the duty tokens passed to the
  devices that pay them, and the run of the whole program.
-/
module

public import proofs.«01_k».proof.Proof.Obligation
public import Idealize.ShloMosaic.Lib.Pipeline.CollectiveSegs

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Every kind of cell at once -/

omit [FloatOps F] in
/-- A family over a device's cells, written out. -/
theorem over_own (Φ : OK → sProp 𝕄) : bigSep Finset.univ Φ
    = iprop((Φ (.inl 0) ∗ Φ (.inl 1) ∗ Φ (.inl 2) ∗ Φ (.inl 3)) ∗ (Φ (.inr (.inl 0)) ∗ Φ (.inr (.inl 1)) ∗ Φ (.inr (.inl 2)))
        ∗ (Φ (.inr (.inr 0)) ∗ Φ (.inr (.inr 1)) ∗ Φ (.inr (.inr 2)))) := by
  rw [bigSep_univ_sum, bigSep_univ_sum, bigSep_fin4, bigSep_fin3, bigSep_fin3]; rfl

omit [FloatOps F] in
theorem over_cells (Φ : CK → sProp 𝕄) : bigSep Finset.univ Φ = iprop(Φ kB ∗ bigSep Finset.univ fun k : OK => Φ (.inr k)) := by
  rw [bigSep_univ_sum, bigSep_univ_eq_bigSepL [()] (by decide) (by decide)]; rfl

/-! ## What the launch element is -/

/-- A device's duties: three on its barrier, one on each other cell. -/
abbrev Duty : Type := Fin 3 ⊕ OK
abbrev dutyCell : Duty → CK
  | .inl _ => kB
  | .inr k => .inr k
abbrev dutyName : Duty → Fin 3
  | .inl d => d
  | .inr _ => 0

abbrev tokOf (ct : Dev nD × Duty) : GSem nD τ sig × ℕ × Fin 3 := (kcell (ct.1, dutyCell ct.2), 0, dutyName ct.2)

theorem tokOf_injective : Function.Injective tokOf := by
  rintro ⟨c, t⟩ ⟨c', t'⟩ h
  have h1 : (c, dutyCell t) = (c', dutyCell t') := kcell_injective (congrArg Prod.fst h)
  have h2 : dutyName t = dutyName t' := congrArg (fun x : GSem nD τ sig × ℕ × Fin 3 => x.2.2) h
  obtain ⟨rfl, h3⟩ := Prod.mk.inj h1
  have : t = t' := by
    rcases t with d | k <;> rcases t' with d' | k'
    · exact congrArg Sum.inl h2
    · cases h3
    · cases h3
    · cases h3; rfl
  subst this; rfl

/-- All the cells, and all the duty tokens. -/
def exCells : Finset (GSem nD τ sig) := Finset.univ.map ⟨kcell, kcell_injective⟩
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The tokens of the duties on device `c`'s own cells. -/
def toks (c : Dev nD) : sProp 𝕄 :=
  bigSep Finset.univ fun t : Duty => dutyTok EX (kcell (c, dutyCell t)) 0 (dutyName t)

/-- What the launch element deals device `c`, -/
def dealt (c : Dev nD) : sProp 𝕄 :=
  iprop((bigSep Finset.univ fun k : CK => roundState EX (exRd m) (kcell (c, k)) 0)
    ∗ (bigSep Finset.univ fun k : CK => iprop(atPos EX (kcell (c, k)) 0 ∅ 0 ∗ reached EX (kcell (c, k)) 0)) ∗ toks c)
/-- and what the global step makes of it. -/
def known (c : Dev nD) : sProp 𝕄 := iprop(∃ K, ghost m K c)

theorem fund_exchange : BI.own (EX (initOf exCells exToks)) ⊢ (|==> bigSep Finset.univ (dealt m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]; rfl
  iintro HX
  imod (Rounds.fund EX (exRd m) exCells exToks) $$ HX with ⟨Hst, Hr, Hat, Htok⟩
  imodintro
  ihave Hst := (Entails.of_eq (hX fun g => roundState EX (exRd m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The counters -/

theorem ownSemFacts : Pipeline.OwnSemFacts cfg0.spec osem := by decide

theorem share_eq (c : Dev nD) (w : Fin cfg0.W) : (dats m 0 c).share w = fullShare := by unfold Dat.share; split <;> rfl

omit [FloatOps F] in
/-- The kernel's own counters at zero. -/
theorem ownSems0_eq (c : Dev nD) :
    (Pipeline.ownSems0 (Ix := Unit) (Name := ℕ) (U := UU) (Lvl := ℕ) (Val := Elt F) (τ := τ) osem c : sProp 𝕄)
      = bigSep Finset.univ fun k : OK => semVal (kcell (c, .inr k)) 0 := rfl

omit [FloatOps F] in
/-- The barrier's is the one counter the region does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's invariants allocated. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : CK => iprop(∃ κ : ℕ, cellInv EX (exRd m) κ (kcell (c, k))))
          ∗ (bigSep Finset.univ fun k : CK => iprop(atPos EX (kcell (c, k)) 0 ∅ 0 ∗ reached EX (kcell (c, k)) 0)) ∗ toks c) := by
  unfold dealt
  rw [ownSems0_eq, unscopedSems0_eq]
  iintro ⟨Hos, Hus, Hst, Hat, Htok⟩
  imod (show iprop((bigSep Finset.univ fun k : CK => semVal (kcell (c, k)) 0) ∗ bigSep Finset.univ fun k : CK => roundState EX (exRd m) (kcell (c, k)) 0)
      ⊢ (|={Set.univ}=> bigSep Finset.univ fun k : CK => iprop(∃ κ : ℕ, cellInv EX (exRd m) κ (kcell (c, k))) : sProp 𝕄) from by
        rw [← bigSep_sep']
        exact (bigSep_mono fun k _ => (Rounds.body_intro EX (exRd m) (kcell (c, k))).trans inv_alloc).trans (bigSep_fupd _ _)) $$ [Hos Hus Hst] with Hinv
  · isplitr [Hst]
    · rw [over_cells (fun k => semVal (kcell (c, k)) 0)]
      isplitl [Hus] <;> iassumption
    iexact Hst
  imodintro
  isplitl [Hinv]; · iexact Hinv
  isplitl [Hat] <;> iassumption

/-! ## The tokens to the devices that pay them -/

omit [FloatOps F] in
theorem toks_around : (bigSep Finset.univ fun c : Dev nD => (toks c : sProp 𝕄)) ⊢ bigSep Finset.univ fun c : Dev nD => payToks c := by
  have e (c : Dev nD) : (toks c : sProp 𝕄) = iprop(
      (dutyTok EX (barCell c) 0 0 ∗ dutyTok EX (barCell c) 0 1 ∗ dutyTok EX (barCell c) 0 2)
    ∗ (dutyTok EX (copyCell 0 c) 0 0 ∗ dutyTok EX (copyCell 1 c) 0 0 ∗ dutyTok EX (copyCell 2 c) 0 0 ∗ dutyTok EX (copyCell 3 c) 0 0)
    ∗ (dutyTok EX (sendCell 0 c) 0 0 ∗ dutyTok EX (sendCell 1 c) 0 0 ∗ dutyTok EX (sendCell 2 c) 0 0)
    ∗ (dutyTok EX (recvCell 0 c) 0 0 ∗ dutyTok EX (recvCell 1 c) 0 0 ∗ dutyTok EX (recvCell 2 c) 0 0)) := by
    unfold toks; rw [bigSep_univ_sum, bigSep_fin3, over_own]; rfl
  rw [bigSep_congr fun c _ => e c]
  unfold payToks
  simp only [bigSep_sep']
  rw [bigSep_univ_equiv (shift 0) (fun c : Dev nD => (dutyTok EX (barCell c) 0 0 : sProp 𝕄)),
    bigSep_univ_equiv (shift 1) (fun c : Dev nD => (dutyTok EX (barCell c) 0 1 : sProp 𝕄)),
    bigSep_univ_equiv (shift 2) (fun c : Dev nD => (dutyTok EX (barCell c) 0 2 : sProp 𝕄)),
    bigSep_univ_equiv (shift 0) (fun c : Dev nD => (dutyTok EX (recvCell 0 c) 0 0 : sProp 𝕄)),
    bigSep_univ_equiv (shift 1) (fun c : Dev nD => (dutyTok EX (recvCell 1 c) 0 0 : sProp 𝕄)),
    bigSep_univ_equiv (shift 2) (fun c : Dev nD => (dutyTok EX (recvCell 2 c) 0 0 : sProp 𝕄))]
  exact .rfl

/-! ## The global step -/

omit [FloatOps F] in
/-- What is persistent can be handed to every member of a family. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem positions_eq (c : Dev nD) : bigSep Finset.univ (fun k : CK => (atPos EX (kcell (c, k)) 0 ∅ 0 : sProp 𝕄)) = positions c := by
  rw [over_cells, over_own]; rfl

theorem regroup :
    (bigSep Finset.univ fun c : Dev nD => iprop((bigSep Finset.univ fun k : CK => iprop(∃ κ : ℕ, cellInv EX (exRd m) κ (kcell (c, k))))
          ∗ (bigSep Finset.univ fun k : CK => iprop(atPos EX (kcell (c, k)) 0 ∅ 0 ∗ reached EX (kcell (c, k)) 0)) ∗ toks c) : sProp 𝕄)
      ⊢ bigSep Finset.univ (known m) := by
  rw [bigSep_sep', bigSep_sep', ← bigSep_univ_prod (fun ck : Dev nD × CK => iprop(∃ κ : ℕ, cellInv EX (exRd m) κ (kcell ck))),
    bigSep_congr (s := Finset.univ) (fun (c : Dev nD) _ => bigSep_sep' Finset.univ (fun k : CK => (atPos EX (kcell (c, k)) 0 ∅ 0 : sProp 𝕄)) (fun k => reached EX (kcell (c, k)) 0)),
    bigSep_sep', ← bigSep_univ_prod (fun ck : Dev nD × CK => (reached EX (kcell ck) 0 : sProp 𝕄)),
    bigSep_congr (s := Finset.univ) (fun (c : Dev nD) _ => positions_eq c)]
  iintro ⟨HI, ⟨Hat, #HR⟩, Htok⟩
  ihave HK := (BI.bigSep_exists_pi Finset.univ (fun (ck : Dev nD × CK) (κ : ℕ) => (cellInv EX (exRd m) κ (kcell ck) : sProp 𝕄))) $$ HI
  icases HK with ⟨%K, #HI⟩
  ihave Htk := (toks_around (F := F)) $$ Htok
  iapply (with_each (R := records m K) (Φ := fun c => iprop(positions c ∗ payToks c)) (Ψ := known m) fun c _ => by
    unfold known ghost
    iintro H
    iexists K
    iexact H)
  isplitr
  · unfold records; isplitl; · iexact HI
    iexact HR
  · rw [bigSep_sep']
    isplitl [Hat] <;> iassumption

/-- Every device's counters made invariants at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (known m) :=
  ((bigSep_mono fun c _ => core_alloc m c).trans (bigSep_fupd _ _)).trans (BI.fupd_mono (regroup m))

/-! ## The launch credit -/

omit [FloatOps F] in
/-- What all the devices owe a cell, of one kind of due: one device's worth if the kinds agree. -/
theorem sum_due (j : Fin 3) (k k' : CK) (a : ℕ) (c : Dev nD) :
    ∑ d : Dev nD, tallyAt (kcell (fwd j d, k)) () a (kcell (c, k')) () = if k = k' then a else 0 := by
  have e (d : Dev nD) : tallyAt (kcell (fwd j d, k)) () a (kcell (c, k')) () = if fwd j d = c then (if k = k' then a else 0) else 0 := by
    rw [tallyAt_apply]
    by_cases h : fwd j d = c
    · rw [if_pos h]
      by_cases hk : k = k'
      · rw [if_pos hk, h, hk, if_pos ⟨rfl, rfl⟩]
      · rw [if_neg hk, if_neg fun h' => hk (Prod.mk.inj (kcell_injective h'.1)).2.symm]
    · rw [if_neg h, if_neg fun h' => h (Prod.mk.inj (kcell_injective h'.1)).1.symm]
  rw [Finset.sum_congr rfl fun d _ => e d]
  exact (Equiv.sum_comp (shift j) fun x => if x = c then (if k = k' then a else 0) else 0).trans
    ((Finset.sum_ite_eq' Finset.univ c _).trans (if_pos (Finset.mem_univ _)))

omit [FloatOps F] in
/-- What all the devices owe a cell. -/
theorem sum_owed (c : Dev nD) (k : CK) : ∑ d : Dev nD, O₀ d (kcell (c, k)) ()
    = (((((if kR 2 = k then NX else 0) + (if kR 1 = k then NX else 0)) + (if kR 0 = k then NX else 0))
        + (if kB = k then 1 else 0)) + (if kB = k then 1 else 0)) + (if kB = k then 1 else 0) := by
  have e (d : Dev nD) : O₀ d (kcell (c, k)) () =
      ((((tallyAt (kcell (fwd 2 d, kR 2)) () NX (kcell (c, k)) () + tallyAt (kcell (fwd 1 d, kR 1)) () NX (kcell (c, k)) ())
        + tallyAt (kcell (fwd 0 d, kR 0)) () NX (kcell (c, k)) ()) + tallyAt (kcell (fwd 2 d, kB)) () 1 (kcell (c, k)) ())
        + tallyAt (kcell (fwd 1 d, kB)) () 1 (kcell (c, k)) ()) + tallyAt (kcell (fwd 0 d, kB)) () 1 (kcell (c, k)) () := by
    unfold O₀ oweB1 oweB2 owe0 owe1 owe2
    simp only [Pi.add_apply, Finsupp.add_apply, Pi.zero_apply, Finsupp.zero_apply, Nat.zero_add]
  rw [Finset.sum_congr rfl fun d _ => e d]
  simp only [Finset.sum_add_distrib, sum_due]

/-- The four cells a device is launched with credit on. -/
abbrev credK : Unit ⊕ Fin 3 → CK
  | .inl _ => kB
  | .inr j => kR j
theorem credK_injective : Function.Injective credK := by decide

abbrev credAmount : Unit ⊕ Fin 3 → ℕ
  | .inl _ => 3
  | .inr _ => NX

omit [FloatOps F] in
theorem launch_due (c : Dev nD) (u : Unit ⊕ Fin 3) :
    tallyOn (kcell (c, credK u)) (launchCredit (Pipeline.owing O₀) 0 (kcell (c, credK u)))
      = (tallyAt (kcell (c, credK u)) () (credAmount u) : CellTallies nD τ sig Unit) := by
  unfold tallyAt; refine congrArg _ (Finsupp.ext fun v => ?_); cases v
  rw [Pipeline.launchCredit_owing, Finsupp.single_eq_same, sum_owed]
  rcases u with ⟨⟩ | j
  · rfl
  · have hB : ¬kB = kR j := fun h => by cases h
    have hR (i : Fin 3) : (if kR i = kR j then NX else 0) = if i = j then NX else 0 := if_congr (by simp) rfl rfl
    simp only [hB, if_false, hR, Nat.add_zero]
    fin_cases j <;> simp

omit [FloatOps F] in
theorem creds (c : Dev nD) : (Pipeline.launchCred O₀ c : sProp 𝕄) ⊢ credits c := by
  have e : (bigSep Finset.univ fun u => (cred (tallyAt (kcell (c, credK u)) () (credAmount u)) : sProp 𝕄)) = credits c := by
    rw [bigSep_univ_sum, bigSep_univ_eq_bigSepL [()] (by decide) (by decide), bigSep_fin3]; rfl
  unfold Pipeline.launchCred
  refine (bigSep_subset (Finset.subset_univ (Finset.univ.map ⟨fun u => csem (credK u), csem_injective.comp credK_injective⟩))).trans ?_
  rw [bigSep_map, ← e]
  exact bigSep_mono fun u _ => Entails.of_eq (congrArg cred (launch_due c u))

/-! ## Into the region and out of it -/

/-- What a device enters the region with, beside its windows and scratch. -/
def start (c : Dev nD) : sProp 𝕄 := iprop(known m c ∗ levAts L lv ∗ credits c ∗ held c xM (xAt m c))

/-- What it leaves with: the barrier's counter at zero, and its block of `x` as launched. -/
def finish (c : Dev nD) : sProp 𝕄 := iprop(unscopedSems0 c ∗ held c xM (xAt m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ known m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start
  isplitl
  · isplitl [HG]; · iexact HG
    isplitl [Hlev]; · iexact Hlev
    isplitl [Hc]; · iexact Hc
    iapply (Entails.of_eq (owns_whole (c : Thread nD τ) main_arg0 fullShare (xAt m c)).symm)
    iexact Hx
  · iempintro

/-- A scratch buffer at arbitrary contents, as the body names it. -/
theorem scratch_some (c : Dev nD) (b : Ref sig .tc) :
    iprop(∃ f : Buf (Elt F) ((c : Thread nD τ).loc b), ((c : Thread nD τ).loc b) ↦{fullShare} f) = (iprop(∃ X, owns (c : Thread nD τ) (Memref.whole b) fullShare X) : sProp 𝕄) := by
  simp only [owns_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, before1 m K c) from rfl, scopedRest0_eq]
  rw [scratch_some, scratch_some, scratch_some, scratch_some]
  unfold start known ghost before1
  iintro ⟨⟨⟨%K, HR, Hp, Ht⟩, Hlev, Hc, Hx⟩, -, H0, H1, H2, H3⟩
  iexists K
  isplitl [HR]; · iexact HR
  isplitl [Hlev]; · iexact Hlev
  isplitl [Hp]; · iexact Hp
  isplitl [Ht]; · iexact Ht
  isplitl [Hc]; · iexact Hc
  isplitl [Hx]; · iexact Hx
  isplitl [H0]; · iexact H0
  isplitl [H1]; · iexact H1
  isplitl [H2]; · iexact H2
  iexact H3

theorem last_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = after1 m c from rfl, scopedRest0_eq, ownSems0_eq, over_own]
  rw [scratch_some, scratch_some, scratch_some, scratch_some]
  unfold after1 allZero ownZero finish
  rw [unscopedSems0_eq]
  iintro ⟨Hg, Hx, Hc, Hs, Hl, HzB, H0, H1, H2, H3, H4, H5, H6, H7, H8, H9⟩
  isplitl [HzB Hx]
  · isplitl [HzB] <;> iassumption
  isplitl [H0 H1 H2 H3 H4 H5 H6 H7 H8 H9]
  · isplitl [H0 H1 H2 H3]
    · isplitl [H0]; · iexact H0
      isplitl [H1]; · iexact H1
      isplitl [H2] <;> iassumption
    isplitl [H4 H5 H6]
    · isplitl [H4]; · iexact H4
      isplitl [H5] <;> iassumption
    isplitl [H7]; · iexact H7
    isplitl [H8] <;> iassumption
  isplitl [Hc]; · iexact Hc
  isplitl [Hs]; · iexact Hs
  isplitl [Hg]; · iexists _; iexact Hg
  iexact Hl

/-! ## The pipeline's own waits -/

/-- No staging semaphore is one of the exchange's cells, -/
theorem stage_kind (w : Fin cfg0.W) (s : Fin (cfg0.win w).nbuf) : ∀ k : CK, csem k ≠ .dma ((cfg0.win w).sem s) := by
  fin_cases w <;> fin_cases s <;> decide

/-- so a device may wait on one whatever it owes. -/
theorem waits (c : Dev nD) : (levAts L lv : sProp 𝕄) ⊢ Pipeline.cellsWaits cfgs (dats m) () 0 c :=
  Pipeline.cellsWaits_intro cfgs (dats m) () 0 c fun w s t =>
    mayWait_of c _ (n := 0) (by
      show (Function.partialInv csem _).elim 0 lvK ≤ 0
      unfold Function.partialInv
      rw [dif_neg fun ⟨k, hk⟩ => stage_kind w s k hk]
      exact le_rfl) (by
      rcases t with ⟨_ | _, ht⟩
      · exact above_O₀ c
      · exact above_zero 1)

/-! ## The run -/

/-- A window's array after the run. -/
def finalA (c : Dev nD) (w : Fin cfg0.W) : Buf (Elt F) ((cfg0.win w).arr.view.loc (c : Thread nD τ)) := (dats m 0 c).arrAt w cfg0.N

set_option maxRecDepth 8000 in
/-- From any memory with every counter zero, every weakly fair execution of the four devices' kernels terminates, with
    each device's arrays at the computed contents, its block of `x` as it was, and every counter at zero. -/
theorem run_main (ρ : Dev nD → PrngReg) : θ_run defs (onTc (τ := τ) (main (F := F))) (s₀ m ρ) (fun r =>
    ((∀ c : Dev nD, ∀ w : Fin cfg0.W, r.2.mem ((cfg0.win w).arr.view.loc (c : Thread nD τ)) = finalA m c w)
      ∧ ∀ c : Dev nD, r.2.mem ((c : Thread nD τ).loc main_arg0) = m ((c : Thread nD τ).loc main_arg0))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := known m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m) (hout := last_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold finish
      iintro ⟨⟨Hu, Hx⟩, -, HSI⟩
      ihave Hx := (Entails.of_eq (owns_whole (c : Thread nD τ) main_arg0 fullShare (xAt m c))) $$ Hx
      icombine HSI Hx gives %hx
      imod (Pipeline.unscopedSems0_read (X := unscopedSems0 c) (c := c) fupd_intro s') $$ [Hu HSI] with ⟨%hs, HSI⟩
      · isplitl [Hu] <;> iassumption
      imodintro
      isplitr
      · ipureintro; exact ⟨funext fun i => hx i (Finset.mem_univ i), hs⟩
      iexact HSI)
    (hQ := fun _ h hs => ⟨⟨fun c w => (h c).1 w, fun c => (h c).2.2.1⟩, sem_eq_zero hs fun c => (h c).2.2.2⟩)

end Cert.Proof

end
-- ==== Proof.Frames.lean ====
/-
  What the run says of the arguments: no device's argument buffer changes, and every counter ends at zero.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ)

/-- The windowed arguments after the run are what they were. -/
theorem finalA_w (c : Dev nD) : finalA m c 0 = m ((c : Thread nD τ).loc main_arg1) := (dats m 0 c).arrAt_in 0 rfl _
theorem finalA_sx (c : Dev nD) : finalA m c 1 = m ((c : Thread nD τ).loc main_arg2) := (dats m 0 c).arrAt_in 1 rfl _
theorem finalA_sw (c : Dev nD) : finalA m c 2 = m ((c : Thread nD τ).loc main_arg3) := (dats m 0 c).arrAt_in 2 rfl _

/-- The run, read at the result and at each argument. -/
theorem run_read (ρ : Dev nD → PrngReg) : θ_run defs (onTc (τ := τ) (main (F := F))) ⟨m, fun _ => 0, ρ⟩ (fun r =>
    (∀ c : Dev nD, r.2.mem ((c : Thread nD τ).loc main_v1) = finalA m c 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨h.1.1 c 3, h.1.2 c, (h.1.1 c 0).trans (finalA_w m c), (h.1.1 c 1).trans (finalA_sx m c),
    (h.1.1 c 2).trans (finalA_sw m c)⟩, h.2⟩) (run_main m ρ)

/-- The run, read at the arguments alone. -/
theorem run_args (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => (h.1 c).2, h.2⟩) (run_read m ρ)

/-- The kernel as printed has the ideal program's text: the same body at its one label, -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    exact Eq.trans (b := @Cert.Kernel.cc0_body F _ _ _ _ _ _ _ _ _ _ _ _ _ _ _ _ _ _ _ _ _ _ _ _) rfl rfl

/-- and so the same table of definitions. -/
theorem defs_same : Cert.Kernel.defs (F := F) = Cert.KernelIdeal.defs (F := F) :=
  congrArg (Pipeline.defs Cert.KernelIdeal.pcfgs) defs₀_same

/-- Hence the run above, at the bit words, is the printed kernel's. -/
theorem frame_kernel : Cert.quiescent_Kernel := fun m ρ _ => by
  have h := run_args (F := Bits) m ρ
  rw [← defs_same] at h
  exact h

theorem frame_ideal : Cert.quiescent_KernelIdeal := fun m ρ _ => run_args (F := Ideal) m ρ

/-- The reference runs on the host, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Value.lean ====
/-
  What the kernel computes over the extended reals: at each point the columns block of
  `max ((x w) · (sx sw)) 0` for the device's own rows.
-/
module

public import Idealize.ShloMosaic.Lib.Pointwise
public import Idealize.ShloMosaic.Lib.Pipeline.ValueKit.Geometry
public import proofs.«01_k».proof.Proof.Frames

@[expose] public section

set_option maxRecDepth 16384

noncomputable section

namespace Cert.Proof

open Cert.KernelIdeal Cert.KernelIdeal.Gen

open Idealize.ShloMosaic
open Idealize.ShloMosaic.TcCoe
open Idealize.SL.Sem

variable (m : (ℓ : Loc nD τ sig) → Buf (Elt Ideal) ℓ)

/-! ## The payloads at an index -/

/-- Row `r` of block `b`, and column `k` of it in the gathered rows, as coordinates of the whole. -/
abbrev at4 (b : Fin 4) (k : Fin 1024) : Fin 4096 := ⟨b.val * 1024 + k.val, by omega⟩

/-- One partial product: chunk `p` times a rows block of `w`. -/
abbrev part (p : S1024x1024.Idx → Elt Ideal .fp8e4m3) (W : S1024x512.Idx → Elt Ideal .f32) (r : Fin 1024) (j : Fin 512) : EReal :=
  ∑ k : Fin 1024, (p (ix2 r k) : EReal) * W (ix2 k j)

theorem pay10_apply (W : S1024x512.Idx → Elt Ideal .f32) (p : S1024x1024.Idx → Elt Ideal .fp8e4m3) (r : Fin 1024) (j : Fin 512) :
    k0_pay10 (F := Ideal) W p (ix2 r j) = part p W r j := by
  pointwise [k0_pay10]

theorem pay12_apply (W A : S1024x512.Idx → Elt Ideal .f32) (p : S1024x1024.Idx → Elt Ideal .fp8e4m3) (r : Fin 1024) (j : Fin 512) :
    k0_pay12 (F := Ideal) W A p (ix2 r j) = (A (ix2 r j) + part p W r j : EReal) := by
  pointwise [k0_pay12]

theorem pay16_apply (W A : S1024x512.Idx → Elt Ideal .f32) (p : S1024x1024.Idx → Elt Ideal .fp8e4m3) (r : Fin 1024) (j : Fin 512) :
    k0_pay16 (F := Ideal) (k0_pay14 W) (k0_pay15 A) p (ix2 r j) = (A (ix2 r j) + part p W r j : EReal) := by
  pointwise [k0_pay16, k0_pay14, k0_pay15]

theorem pay3_apply (W A : S1024x512.Idx → Elt Ideal .f32) (p : S1024x1024.Idx → Elt Ideal .fp8e4m3) (r : Fin 1024) (j : Fin 512) :
    k0_pay3 (F := Ideal) W A p (ix2 r j) = (A (ix2 r j) + part p W r j : EReal) := by
  pointwise [k0_pay3]

theorem pay4_apply (s t : EReal) (A : S1024x512.Idx → Elt Ideal .f32) (r : Fin 1024) (j : Fin 512) :
    k0_pay4 (F := Ideal) s t A (ix2 r j) = max ((A (ix2 r j) : EReal) * (s * t)) 0 := by
  pointwise [k0_pay4, k0_pay1]

theorem pay5_apply (s t : EReal) (W : S4096x512.Idx → Elt Ideal .f32) (g : S1024x4096.Idx → Elt Ideal .fp8e4m3) (r : Fin 1024) (j : Fin 512) :
    k0_pay5 (F := Ideal) s t W g (ix2 r j) = max ((∑ k : Fin 4096, (g (ix2 r k) : EReal) * W (ix2 k j)) * (s * t)) 0 := by
  pointwise [k0_pay5, k0_pay1]

/-- A chunk is the rows block it was made of: the short format changes nothing here. -/
theorem chunk_apply (o : Dev nD) (b : Fin 4) (i : S1024x1024.Idx) : chunk m o b i = rowsAt m o b i := by
  unfold chunk
  pointwise [k0_pay6]

/-! ## The gathered rows -/

theorem colRect_emb (b : Fin 4) (r k : Fin 1024) : (colRect b).emb (ix2 r k) = ix2 r (at4 b k) := by
  funext a
  refine Fin.ext ?_
  fin_cases a
  · show 0 + 1 * r.val = r.val
    omega
  · show 1024 * b.val + 1 * k.val = b.val * 1024 + k.val
    omega

theorem rowRect_emb (b : Fin 4) (r k : Fin 1024) : (rowRect b).emb (ix2 r k) = ix2 (at4 b r) k := by
  funext a
  refine Fin.ext ?_
  fin_cases a
  · show 1024 * b.val + 1 * r.val = b.val * 1024 + r.val
    omega
  · show 0 + 1 * k.val = k.val
    omega

theorem wRect_emb (b : Fin 4) (k : Fin 1024) (j : Fin 512) : (wRect b).emb (ix2 k j) = ix2 (at4 b k) j := by
  funext a
  refine Fin.ext ?_
  fin_cases a
  · show 1024 * b.val + 1 * k.val = b.val * 1024 + k.val
    omega
  · show 0 + 1 * j.val = j.val
    omega

/-- Block `b` of device `c`'s gathered rows is what device `b` held of those rows. -/
theorem gath_chunk (c : Dev nD) (b : Fin 4) (r k : Fin 1024) : gath m c (ix2 r (at4 b k)) = chunk m b c (ix2 r k) := by
  rw [← colRect_emb, gath_emb]

theorem gath_apply (c : Dev nD) (b : Fin 4) (r k : Fin 1024) : gath m c (ix2 r (at4 b k)) = xAt m b (ix2 (at4 c r) k) := by
  rw [gath_chunk, chunk_apply, rowsAt, rowRect_emb]

/-- A sum over the four blocks, in the order a device receives them. -/
theorem sum_bwd (c : Dev nD) (f : Fin 4 → EReal) : ∑ b, f b = f c + f (bwd 0 c) + f (bwd 1 c) + f (bwd 2 c) := by
  rw [Fin.sum_univ_four]
  have e : (c = 0 ∧ bwd 0 c = 3 ∧ bwd 1 c = 2 ∧ bwd 2 c = 1) ∨ (c = 1 ∧ bwd 0 c = 0 ∧ bwd 1 c = 3 ∧ bwd 2 c = 2)
      ∨ (c = 2 ∧ bwd 0 c = 1 ∧ bwd 1 c = 0 ∧ bwd 2 c = 3) ∨ (c = 3 ∧ bwd 0 c = 2 ∧ bwd 1 c = 1 ∧ bwd 2 c = 0) := by
    revert c; decide
  rcases e with ⟨h, h0, h1, h2⟩ | ⟨h, h0, h1, h2⟩ | ⟨h, h0, h1, h2⟩ | ⟨h, h0, h1, h2⟩ <;> rw [h0, h1, h2, h] <;> ac_rfl

/-- The four partial products, summed as they arrive, are the whole product of the gathered rows. -/
theorem acc4_apply (c : Dev nD) (W : S4096x512.Idx → Elt Ideal .f32) (r : Fin 1024) (j : Fin 512) :
    acc4 m c W (ix2 r j) = (∑ k : Fin 4096, (gath m c (ix2 r k) : EReal) * W (ix2 k j) : EReal) := by
  rw [acc4, pay3_apply, acc3, pay16_apply, acc2, pay12_apply, acc1, pay10_apply, Fin.sum_univ_tiles 4 1024 rfl, sum_bwd c]
  have h (b : Fin 4) : part (chunk m b c) (wRows W b) r j
      = ∑ k : Fin 1024, (gath m c (ix2 r (at4 b k)) : EReal) * W (ix2 (at4 b k) j) :=
    Finset.sum_congr rfl fun k _ => by rw [gath_chunk, wRows, wRect_emb]
  rw [h, h, h, h]

/-- Either branch of the body: the product of the gathered rows with the columns block, scaled and cut at zero. -/
theorem firstOut_apply (c : Dev nD) (W : S4096x512.Idx → Elt Ideal .f32) (s t : S1.Idx → Elt Ideal .f32) (r : Fin 1024) (j : Fin 512) :
    firstOut m c W s t (ix2 r j)
      = max ((∑ k : Fin 4096, (gath m c (ix2 r k) : EReal) * W (ix2 k j)) * ((s ix0 : EReal) * t ix0)) 0 := by
  rw [firstOut, pay4_apply, acc4_apply]

theorem nextOut_apply (c : Dev nD) (W : S4096x512.Idx → Elt Ideal .f32) (s t : S1.Idx → Elt Ideal .f32) (r : Fin 1024) (j : Fin 512) :
    nextOut m c W s t (ix2 r j)
      = max ((∑ k : Fin 4096, (gath m c (ix2 r k) : EReal) * W (ix2 k j)) * ((s ix0 : EReal) * t ix0)) 0 :=
  pay5_apply ..

theorem outAt_apply (c : Dev nD) (t : Fin cfg0.N) (r : Fin 1024) (j : Fin 512) :
    outAt m c t (ix2 r j) = max ((∑ k : Fin 4096, (gath m c (ix2 r k) : EReal) * wAt m c t (ix2 k j))
      * ((sxAt m c t ix0 : EReal) * swAt m c t ix0)) 0 := by
  unfold outAt
  split
  · exact firstOut_apply ..
  · exact nextOut_apply ..

/-! ## The result array -/

/-- What device `c` leaves in its rows of the result: its rows of `x`, times `w`, scaled, cut at zero. -/
def res (c : Dev nD) : S1024x8192.Idx → Elt Ideal .f32 :=
  let w : S4096x8192.Idx → Elt Ideal .f32 := m ((c : Thread nD τ).loc main_arg1)
  let sx : S1.Idx → Elt Ideal .f32 := m ((c : Thread nD τ).loc main_arg2)
  let sw : S1.Idx → Elt Ideal .f32 := m ((c : Thread nD τ).loc main_arg3)
  fun i => (max ((∑ k : Fin 4096, (gath m c (ix2 (i 0) k) : EReal) * w (ix2 k (i 1))) * ((sx ix0 : EReal) * sw ix0)) 0 : EReal)

theorem res_apply (c : Dev nD) {W : S4096x8192.Idx → Elt Ideal .f32} {s t : S1.Idx → Elt Ideal .f32}
    (hW : m ((c : Thread nD τ).loc main_arg1) = W) (hs : m ((c : Thread nD τ).loc main_arg2) = s)
    (ht : m ((c : Thread nD τ).loc main_arg3) = t) (r : Fin 1024) (j : Fin 8192) :
    res m c (ix2 r j) = (max ((∑ k : Fin 4096, (gath m c (ix2 r k) : EReal) * W (ix2 k j)) * ((s ix0 : EReal) * t ix0)) 0 : EReal) := by
  subst hW hs ht; rfl

/-- Column `j` of the block a point works on. -/
abbrev colAt (t : Fin cfg0.N) (j : Fin 512) : Fin 8192 :=
  ⟨t.val * 512 + j.val, by have h : t.val < 16 := N_0 ▸ t.isLt; omega⟩

theorem index_w (t : Fin cfg0.N) : win0_0.index t 0 = 0 ∧ win0_0.index t 1 = t.val :=
  (by decide +kernel : ∀ t : Fin grid0.N, win0_0.index t 0 = 0 ∧ win0_0.index t 1 = t.val) t
theorem index_out (t : Fin cfg0.N) : win0_3.index t 0 = 0 ∧ win0_3.index t 1 = t.val :=
  (by decide +kernel : ∀ t : Fin grid0.N, win0_3.index t 0 = 0 ∧ win0_3.index t 1 = t.val) t

/-- The columns blocks of `w` and of the result at a point start at the same column; -/
theorem wAt_apply (c : Dev nD) (t : Fin cfg0.N) (k : Fin 4096) (j : Fin 512) :
    wAt m c t (ix2 k j) = m ((c : Thread nD τ).loc main_arg1) (ix2 k (colAt t j)) := by
  refine congrArg (m ((c : Thread nD τ).loc main_arg1)) (funext fun a => Fin.ext ?_)
  fin_cases a
  · show win0_0.index t 0 * 4096 + 1 * k.val = k.val
    rw [(index_w t).1]; omega
  · show win0_0.index t 1 * 512 + 1 * j.val = t.val * 512 + j.val
    rw [(index_w t).2]; omega
theorem emb_out (t : Fin cfg0.N) (r : Fin 1024) (j : Fin 512) : (win0_3.blk t).view.emb (ix2 r j) = ix2 r (colAt t j) := by
  refine funext fun a => Fin.ext ?_
  fin_cases a
  · show win0_3.index t 0 * 1024 + 1 * r.val = r.val
    rw [(index_out t).1]; omega
  · show win0_3.index t 1 * 512 + 1 * j.val = t.val * 512 + j.val
    rw [(index_out t).2]; omega
/-- and the scales' blocks are the scales. -/
theorem sxAt_apply (c : Dev nD) (t : Fin cfg0.N) : sxAt m c t ix0 = m ((c : Thread nD τ).loc main_arg2) ix0 :=
  congrArg (m ((c : Thread nD τ).loc main_arg2)) (funext fun a => Fin.ext (by revert a t; decide +kernel))
theorem swAt_apply (c : Dev nD) (t : Fin cfg0.N) : swAt m c t ix0 = m ((c : Thread nD τ).loc main_arg3) ix0 :=
  congrArg (m ((c : Thread nD τ).loc main_arg3)) (funext fun a => Fin.ext (by revert a t; decide +kernel))

theorem final_out (c : Dev nD) : finalA m c 3 = res m c := by
  refine (dats m 0 c).arrAt_eq_of_covers 3 _ (by decide +kernel) fun t hf y => ?_
  blk_simp
  show outAt m c t y = res m c ((win0_3.blk t).view.emb y)
  obtain ⟨r, j, rfl⟩ : ∃ (r : Fin 1024) (j : Fin 512), y = ix2 r j := ⟨y 0, y 1, eq_ix2 y⟩
  rw [outAt_apply, emb_out, sxAt_apply, swAt_apply]
  simp only [wAt_apply]
  rfl

/-! ## The reference -/

/-- The reference's result at an index. -/
theorem ref_apply (X : FVec Ideal Cert.ReferenceIdeal.S4096x4096 .f32) (W : FVec Ideal Cert.ReferenceIdeal.S4096x8192 .f32)
    (s t : FVec Ideal Cert.ReferenceIdeal.S1 .f32) (i : Fin 4096) (j : Fin 8192) :
    maximumf (mulf (Host.dotGeneral Cert.ReferenceIdeal.dot_S4096x4096_S4096x8192_S4096x8192_1_0_0_1_n_n none X W)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf s t))))
      (broadcastInDim Cert.ReferenceIdeal.S4096x8192 ![] Cert.ReferenceIdeal.Facts₀.bcast_S_S4096x8192
        (constant Cert.ReferenceIdeal.S_ .f32 0x00000000#32)) (ix2 i j)
      = (max ((∑ k : Fin 4096, (X (ix2 i k) : EReal) * W (ix2 k j)) * ((s ix0 : EReal) * t ix0)) 0 : EReal) := by
  pointwise
  rw [show (ix1 0 : S1.Idx) = ix0 from funext fun a => Fin.ext (by revert a; decide)]

/-- A device's rows of the reference's result are what the kernel leaves there: device `q` holds columns block `q` of
    `x`, every device all of `w` and both scales. -/
theorem res_block (X : FVec Ideal Cert.ReferenceIdeal.S4096x4096 .f32) (W : FVec Ideal Cert.ReferenceIdeal.S4096x8192 .f32)
    (s t : FVec Ideal Cert.ReferenceIdeal.S1 .f32) (R : FVec Ideal Cert.ReferenceIdeal.S4096x8192 .f32)
    (hR : ∀ i j, R (ix2 i j) = (max ((∑ k : Fin 4096, (X (ix2 i k) : EReal) * W (ix2 k j)) * ((s ix0 : EReal) * t ix0)) 0 : EReal))
    (hX : ∀ q : Dev nD, m ((q : Thread nD τ).loc main_arg0) = Layout.block ⟨2, ![4096, 1024]⟩ ⟨2, ![4096, 4096]⟩ 1 4 q X)
    (c : Dev nD) (hW : m ((c : Thread nD τ).loc main_arg1) = W) (hs : m ((c : Thread nD τ).loc main_arg2) = s)
    (ht : m ((c : Thread nD τ).loc main_arg3) = t) :
    res m c = Layout.block ⟨2, ![1024, 8192]⟩ ⟨2, ![4096, 8192]⟩ 0 4 c R := by
  have hg (r : Fin 1024) (k : Fin 4096) : gath m c (ix2 r k) = X (ix2 (at4 c r) k) := by
    obtain ⟨q, k', rfl⟩ : ∃ (q : Fin 4) (k' : Fin 1024), k = at4 q k' :=
      ⟨⟨k.val / 1024, by omega⟩, ⟨k.val % 1024, Nat.mod_lt _ (by decide)⟩, Fin.ext (by show k.val = k.val / 1024 * 1024 + k.val % 1024; omega)⟩
    rw [gath_apply, xAt, hX q, Layout.block_apply]
    exact congrArg X (eq_ix2 _)
  funext i
  obtain ⟨r, j, rfl⟩ : ∃ (r : Fin 1024) (j : Fin 8192), i = ix2 r j := ⟨i 0, i 1, eq_ix2 i⟩
  rw [Layout.block_apply]
  refine Eq.trans ?_ ((hR (at4 c r) j).symm.trans (congrArg R (funext fun a => by fin_cases a <;> rfl)))
  rw [res_apply m c hW hs ht]
  simp only [hg]

/-- Kernel and reference compute the same function over the extended reals. -/
theorem algebraic : Cert.algebraic_KernelIdeal_ReferenceIdeal := by
  intro m g m' g' _ h
  refine ⟨_, (θ_run defs _ _).mono (fun r hr c => ⟨?_, (hr.1 c).2⟩) (run_read m g),
    (θ_run Cert.ReferenceIdeal.defs _ _).mono (fun r hr => hr 0) (Cert.ReferenceIdeal.Value.run m' g')⟩
  exact ((hr.1 c).1.trans (final_out m c)).trans
    (res_block m _ _ _ _ _ (ref_apply _ _ _ _) (fun q => (h q).1) c (h c).2.1 (h c).2.2.1 (h c).2.2.2)

end Cert.Proof

end
-- ==== Proof.lean ====
/-
  The claims about the kernel and the reference, put together.
-/
module

public import proofs.«01_k».proof.Defs
public import proofs.«01_k».proof.Proof.Value

@[expose] public section

noncomputable section

namespace Cert.Proof

theorem claim : Cert.Claim := ⟨Cert.Kernel.Gen.facts, Cert.KernelIdeal.Gen.facts, Cert.ReferenceIdeal.Gen.facts,
  frame_kernel, frame_ideal, frame_reference, trivial, algebraic⟩

end Cert.Proof

end
